-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![3072, 1536]⟩ ⟨2, ![6144, 3072]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1536, 3072]⟩ ⟨2, ![3072, 3072]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![3072, 3072]⟩ ⟨2, ![6144, 3072]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S3072x3072 : Shape := ⟨2, ![3072, 3072]⟩
abbrev S1536x1536 : Shape := ⟨2, ![1536, 1536]⟩
abbrev S3072x384 : Shape := ⟨2, ![3072, 384]⟩
abbrev S1 : Shape := ⟨1, ![1]⟩
abbrev S8 : Shape := ⟨1, ![8]⟩
abbrev S4 : Shape := ⟨1, ![4]⟩
abbrev S_ : Shape := ⟨0, ![]⟩
abbrev S1536x384 : Shape := ⟨2, ![1536, 384]⟩

abbrev nBuf : Space → Nat
  | .hbm => 3
  | .vmem => 6
  | .smem => 0
  | _ => 0

abbrev bufTy : (tb : Table) → Fin (tcTables nBuf tb) → BufTy
  | .hbm, ⟨0, _⟩ => ⟨S3072x1536, .f32⟩
  | .hbm, ⟨1, _⟩ => ⟨S1536x3072, .bf16⟩
  | .hbm, ⟨2, _⟩ => ⟨S3072x3072, .bf16⟩
  | .local _ .vmem, ⟨0, _⟩ => ⟨S3072x1536, .bf16⟩
  | .local _ .vmem, ⟨1, _⟩ => ⟨S1536x3072, .bf16⟩
  | .local _ .vmem, ⟨2, _⟩ => ⟨S3072x3072, .bf16⟩
  | .local _ .vmem, ⟨3, _⟩ => ⟨S3072x1536, .bf16⟩
  | .local _ .vmem, ⟨4, _⟩ => ⟨S1536x1536, .bf16⟩
  | .local _ .vmem, ⟨5, _⟩ => ⟨S3072x384, .f32⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 2 41 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v29 : BitVec 32 := Scalar.muli v2 c2_i32_23
  let v30 : BitVec 32 := Scalar.addi c0_i32_24 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v31 : BitVec 32 := Scalar.muli v6 c1_i32_25
  let v32 : BitVec 32 := Scalar.addi v30 v31
  v32.toNat
def k0_dev4 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v50 : BitVec 32 := Scalar.muli v2 c2_i32_40
  let v51 : BitVec 32 := Scalar.addi c0_i32_41 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_42 : BitVec 32 := 1#32
  let v52 : BitVec 32 := Scalar.muli v6 c1_i32_42
  let v53 : BitVec 32 := Scalar.addi v51 v52
  v53.toNat
def k0_dev5 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v71 : BitVec 32 := Scalar.muli v2 c2_i32_57
  let v72 : BitVec 32 := Scalar.addi c0_i32_58 v71
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v73 : BitVec 32 := Scalar.muli v6 c1_i32_59
  let v74 : BitVec 32 := Scalar.addi v72 v73
  v74.toNat
def k0_dev6 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v92 : BitVec 32 := Scalar.muli v2 c2_i32_73
  let v93 : BitVec 32 := Scalar.addi c0_i32_74 v92
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_75 : BitVec 32 := 1#32
  let v94 : BitVec 32 := Scalar.muli v6 c1_i32_75
  let v95 : BitVec 32 := Scalar.addi v93 v94
  v95.toNat
def k0_off1 (d0 : Dev nD) (c0_i32_81 : BitVec 32) : Fin 2 → Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1536_i32 : BitVec 32 := 1536#32
  let v17 : BitVec 32 := Scalar.muli v2 c1536_i32
  let v104 : BitVec 32 := Scalar.addi v17 c0_i32_81
  let c3072_i32_82 : BitVec 32 := 3072#32
  let v105 : BitVec 32 := Scalar.remsi v104 c3072_i32_82
  ![0, v105.toNat]
def k0_dev7 (d0 : Dev nD) : Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_135 : BitVec 32 := 2#32
  let v172 : BitVec 32 := Scalar.muli v2 c2_i32_135
  let v173 : BitVec 32 := Scalar.addi c0_i32_136 v172
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_137 : BitVec 32 := 1#32
  let v174 : BitVec 32 := Scalar.muli v6 c1_i32_137
  let v175 : BitVec 32 := Scalar.addi v173 v174
  v175.toNat
def k0_dev8 (d0 : Dev nD) : Nat :=
  let c0_i32_149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_148 : BitVec 32 := 2#32
  let v188 : BitVec 32 := Scalar.muli v2 c2_i32_148
  let v189 : BitVec 32 := Scalar.addi c0_i32_149 v188
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_150 : BitVec 32 := 1#32
  let v190 : BitVec 32 := Scalar.muli v6 c1_i32_150
  let v191 : BitVec 32 := Scalar.addi v189 v190
  v191.toNat
def k0_dev9 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v204 : BitVec 32 := Scalar.muli v2 c2_i32_161
  let v205 : BitVec 32 := Scalar.addi c0_i32_162 v204
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_163 : BitVec 32 := 1#32
  let v206 : BitVec 32 := Scalar.muli v6 c1_i32_163
  let v207 : BitVec 32 := Scalar.addi v205 v206
  v207.toNat
def k0_dev10 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v220 : BitVec 32 := Scalar.muli v2 c2_i32_174
  let v221 : BitVec 32 := Scalar.addi c0_i32_175 v220
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_176 : BitVec 32 := 1#32
  let v222 : BitVec 32 := Scalar.muli v6 c1_i32_176
  let v223 : BitVec 32 := Scalar.addi v221 v222
  v223.toNat
def k0_off2 (d0 : Dev nD) (c0_i32_194 : BitVec 32) : Fin 2 → Nat :=
  let c0_196 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1536_i32 : BitVec 32 := 1536#32
  let v17 : BitVec 32 := Scalar.muli v2 c1536_i32
  let v247 : BitVec 32 := Scalar.addi v17 c0_i32_194
  let c3072_i32_195 : BitVec 32 := 3072#32
  let v248 : BitVec 32 := Scalar.remsi v247 c3072_i32_195
  let v249 : Index := Scalar.indexCast v248
  ![0, v249.toNat]
def k0_off3 (d0 : Dev nD) (c0_i32_197 : BitVec 32) : Fin 2 → Nat :=
  let c0_199 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1536_i32 : BitVec 32 := 1536#32
  let v17 : BitVec 32 := Scalar.muli v2 c1536_i32
  let v253 : BitVec 32 := Scalar.addi v17 c0_i32_197
  let c3072_i32_198 : BitVec 32 := 3072#32
  let v254 : BitVec 32 := Scalar.remsi v253 c3072_i32_198
  let v255 : Index := Scalar.indexCast v254
  ![0, v255.toNat]
def k0_dev11 (d0 : Dev nD) : Nat :=
  let c0_i32_265 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_264 : BitVec 32 := 2#32
  let v350 : BitVec 32 := Scalar.muli v7 c2_i32_264
  let v351 : BitVec 32 := Scalar.addi c0_i32_265 v350
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_266 : BitVec 32 := 1#32
  let v352 : BitVec 32 := Scalar.muli v5 c1_i32_266
  let v353 : BitVec 32 := Scalar.addi v351 v352
  v353.toNat
def k0_dev12 (d0 : Dev nD) : Nat :=
  let c0_i32_320 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_319 : BitVec 32 := 2#32
  let v398 : BitVec 32 := Scalar.muli v7 c2_i32_319
  let v399 : BitVec 32 := Scalar.addi c0_i32_320 v398
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_321 : BitVec 32 := 1#32
  let v400 : BitVec 32 := Scalar.muli v5 c1_i32_321
  let v401 : BitVec 32 := Scalar.addi v399 v400
  v401.toNat
def k0_off4 (d0 : Dev nD) (c0_i32_305 : BitVec 32) : Fin 2 → Nat :=
  let c0_i32_333 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1536_i32 : BitVec 32 := 1536#32
  let v17 : BitVec 32 := Scalar.muli v2 c1536_i32
  let v386 : BitVec 32 := Scalar.addi v17 c0_i32_305
  let c3072_i32_306 : BitVec 32 := 3072#32
  let v387 : BitVec 32 := Scalar.remsi v386 c3072_i32_306
  ![0, v387.toNat]
def k0_dev13 (d0 : Dev nD) : Nat :=
  let c0_i32_350 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_349 : BitVec 32 := 2#32
  let v436 : BitVec 32 := Scalar.muli v7 c2_i32_349
  let v437 : BitVec 32 := Scalar.addi c0_i32_350 v436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_351 : BitVec 32 := 1#32
  let v438 : BitVec 32 := Scalar.muli v5 c1_i32_351
  let v439 : BitVec 32 := Scalar.addi v437 v438
  v439.toNat
def k0_dev14 (d0 : Dev nD) : Nat :=
  let c0_i32_380 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_379 : BitVec 32 := 2#32
  let v474 : BitVec 32 := Scalar.muli v7 c2_i32_379
  let v475 : BitVec 32 := Scalar.addi c0_i32_380 v474
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v476 : BitVec 32 := Scalar.muli v5 c1_i32_381
  let v477 : BitVec 32 := Scalar.addi v475 v476
  v477.toNat
def k0_dev15 (d0 : Dev nD) : Nat :=
  let c0_i32_410 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_409 : BitVec 32 := 2#32
  let v512 : BitVec 32 := Scalar.muli v7 c2_i32_409
  let v513 : BitVec 32 := Scalar.addi c0_i32_410 v512
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_411 : BitVec 32 := 1#32
  let v514 : BitVec 32 := Scalar.muli v5 c1_i32_411
  let v515 : BitVec 32 := Scalar.addi v513 v514
  v515.toNat
-- ==== ReferenceIdeal.lean ====
abbrev S6144x3072 : Shape := ⟨2, ![6144, 3072]⟩
abbrev S3072x3072 : Shape := ⟨2, ![3072, 3072]⟩

abbrev nBuf : Space → Nat
  | .hbm => 5
  | .vmem => 0
  | .smem => 0
  | _ => 0

abbrev bufTy : (tb : Table) → Fin (tcTables nBuf tb) → BufTy
  | .hbm, ⟨0, _⟩ => ⟨S6144x3072, .f32⟩
  | .hbm, ⟨1, _⟩ => ⟨S3072x3072, .bf16⟩
  | .hbm, ⟨2, _⟩ => ⟨S6144x3072, .bf16⟩
  | .hbm, ⟨3, _⟩ => ⟨S6144x3072, .f32⟩
  | .hbm, ⟨4, _⟩ => ⟨S6144x3072, .bf16⟩
  | _, _ => ⟨S6144x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Loop.lean ====
/-
The kernel's body written as loops.

The printed body is one long line of memory operations, in which every block of the Python text's `for`
loops appears once per pass. Here each such block is one small program over the pass's number, and
`body_eq_loops` says that the printed body is these programs put one after the other.

An offset the kernel computes from the device's number is a parameter `o` of the small programs, so that a
proof about one of them may be made at the offset's closed form.
-/
module

public import proofs.«01_k».proof.Proof.Gen.KernelIdeal.Skeleton
public import proofs.«01_k».proof.Proof.Gen.KernelIdeal.Points

@[expose] public section

noncomputable section

namespace Cert.KernelIdeal.Ag

open Cert.KernelIdeal.Gen
open Idealize.ShloMosaic Idealize.SL.Sem

variable {F : FTy → Type} [FloatOps F]

/-- A TensorCore program of this kernel that returns nothing. -/
abbrev P (F : FTy → Type) [FloatOps F] := Prog (TpuEff nD τ sig (Elt F) Λ₀ .tc) PUnit

/-- The program `f` at each member of the list, in the list's order. -/
def seqL {ι : Type} (f : ι → P F) : List ι → P F
  | [] => pure ⟨⟩
  | i :: l => f i >>= fun _ => seqL f l

/-- Four passes. -/
def seq4 (f : Fin 4 → P F) : P F := seqL f [0, 1, 2, 3]

/-- Eight passes. -/
def seq8 (f : Fin 8 → P F) : P F := seqL f [0, 1, 2, 3, 4, 5, 6, 7]

/-! ### The buffers -/

/-- The device's block of `A`, in HBM. -/
abbrev aH : Memref sig .tc .hbm S3072x1536 .f32 := Memref.whole main_arg0
/-- The device's block of `B`, in HBM. -/
abbrev bH : Memref sig .tc .hbm S1536x3072 .bf16 := Memref.whole main_arg1
/-- The result, in HBM. -/
abbrev oH : Memref sig .tc .hbm S3072x3072 .bf16 := Memref.whole main_v1
/-- The block of `A` after the cast. -/
abbrev aV : Memref sig .tc .vmem S3072x1536 .bf16 := Memref.whole cc0_scratch0
/-- The block of `B`; half of it is overwritten later by the row neighbour's relay. -/
abbrev bV : Memref sig .tc .vmem S1536x3072 .bf16 := Memref.whole cc0_scratch1
/-- The result before it is copied out. -/
abbrev oV : Memref sig .tc .vmem S3072x3072 .bf16 := Memref.whole cc0_scratch2
/-- The block of `A` received. -/
abbrev aR : Memref sig .tc .vmem S3072x1536 .bf16 := Memref.whole cc0_scratch3
/-- Half of the block of `B` received. -/
abbrev bR : Memref sig .tc .vmem S1536x1536 .bf16 := Memref.whole cc0_scratch4
/-- Where a chunk of `A` is staged before the cast. -/
abbrev sV : Memref sig .tc .vmem S3072x384 .f32 := Memref.whole cc0_scratch5

/-! ### The semaphores -/

theorem inb4 (k : Fin 4) : ∀ a, (![k.val] : Fin 1 → Nat) a + S1.size a ≤ S4.size a := by revert k; decide
theorem inb8 (g : Fin 8) : ∀ a, (![g.val] : Fin 1 → Nat) a + S1.size a ≤ S8.size a := by revert g; decide

/-- One semaphore of an array of four. -/
abbrev s4 (A : DmaSems sig S4) (k : Fin 4) : DmaSem sig :=
  ((A.slice (Rect.unit (s := S4) ![k.val] S1.size (inb4 k))).squeeze S_ squeezes_S1_S_).sem
/-- One semaphore of an array of eight. -/
abbrev s8 (A : DmaSems sig S8) (g : Fin 8) : DmaSem sig :=
  ((A.slice (Rect.unit (s := S8) ![g.val] S1.size (inb8 g))).squeeze S_ squeezes_S1_S_).sem

/-- The semaphore of the staging copy. -/
abbrev sAin : DmaSem sig := ((cc0_scratch6.slice (Rect.unit (s := S1) ![0] S1.size inb_S1_S1_0)).squeeze S_ squeezes_S1_S_).sem
abbrev sBin (g : Fin 8) : DmaSem sig := s8 cc0_scratch7 g
abbrev sAs (k : Fin 4) : DmaSem sig := s4 cc0_scratch8 k
abbrev sAr (k : Fin 4) : DmaSem sig := s4 cc0_scratch9 k
abbrev sBs (k : Fin 4) : DmaSem sig := s4 cc0_scratch10 k
abbrev sBr (k : Fin 4) : DmaSem sig := s4 cc0_scratch11 k
abbrev sFs (k : Fin 4) : DmaSem sig := s4 cc0_scratch12 k
abbrev sFr (k : Fin 4) : DmaSem sig := s4 cc0_scratch13 k
abbrev sCp (g : Fin 8) : DmaSem sig := s8 cc0_scratch14 g
/-- The collective barrier. -/
abbrev sBar : Sem sig := (SemArray.scalar (sig.barrier 0 rfl) : Sems sig S_).sem
/-- "My columns of `B` may be overwritten". -/
abbrev sReady : Sem sig := cc0_scratch15.sem

/-! ### The pieces of a buffer -/

theorem inbA (k : Fin 4) : ∀ a, (![0, 384 * k.val] : Fin 2 → Nat) a + S3072x384.size a ≤ S3072x1536.size a := by
  revert k; decide
theorem inbR (k : Fin 4) : ∀ a, (![0, 384 * k.val] : Fin 2 → Nat) a + S1536x384.size a ≤ S1536x1536.size a := by
  revert k; decide

/-- Chunk `k` of a block of `A`: 384 columns. -/
abbrev rA (k : Fin 4) : Rect S3072x1536 := Rect.unit (s := S3072x1536) ![0, 384 * k.val] S3072x384.size (inbA k)
/-- Chunk `k` of the received half block of `B`: 384 columns. -/
abbrev rR (k : Fin 4) : Rect S1536x1536 := Rect.unit (s := S1536x1536) ![0, 384 * k.val] S1536x384.size (inbR k)

theorem wordsA (k : Fin 4) : (rA k).WholeWords (EltTy.packing .bf16) := by revert k; decide
theorem packedA (k : Fin 4) : (rA k).PackedRows (EltTy.packing .bf16) := by revert k; decide
theorem wordsR (k : Fin 4) : (rR k).WholeWords (EltTy.packing .bf16) := by revert k; decide

abbrev aHc (k : Fin 4) : Memref sig .tc .hbm S3072x384 .f32 := aH.slice (rA k) (fun _ => rfl)
abbrev aVc (k : Fin 4) : Memref sig .tc .vmem S3072x384 .bf16 := aV.slice (rA k) (fun _ => rfl)
abbrev aRc (k : Fin 4) : Memref sig .tc .vmem S3072x384 .bf16 := aR.slice (rA k) (fun _ => rfl)
abbrev bRc (k : Fin 4) : Memref sig .tc .vmem S1536x384 .bf16 := bR.slice (rR k) (fun _ => rfl)

/-- An offset at which 384 columns of `B` fit. -/
abbrev InB (o : Fin 2 → Nat) : Prop := ∀ a, o a + S1536x384.size a ≤ S1536x3072.size a
/-- An offset at which 384 columns of the result fit. -/
abbrev InO (o : Fin 2 → Nat) : Prop := ∀ a, o a + S3072x384.size a ≤ S3072x3072.size a

/-- 384 columns of `B` at an offset. -/
abbrev rB (o : Fin 2 → Nat) (h : InB o) : Rect S1536x3072 := Rect.unit (s := S1536x3072) o S1536x384.size h
/-- 384 columns of the result at an offset. -/
abbrev rO (o : Fin 2 → Nat) (h : InO o) : Rect S3072x3072 := Rect.unit (s := S3072x3072) o S3072x384.size h

abbrev bHc (o : Fin 2 → Nat) (h : InB o) : Memref sig .tc .hbm S1536x384 .bf16 := bH.slice (rB o h) (fun _ => rfl)
abbrev bVc (o : Fin 2 → Nat) (h : InB o) : Memref sig .tc .vmem S1536x384 .bf16 := bV.slice (rB o h) (fun _ => rfl)
abbrev oHc (o : Fin 2 → Nat) (h : InO o) : Memref sig .tc .hbm S3072x384 .bf16 := oH.slice (rO o h) (fun _ => rfl)
abbrev oVc (o : Fin 2 → Nat) (h : InO o) : Memref sig .tc .vmem S3072x384 .bf16 := oV.slice (rO o h) (fun _ => rfl)

/-- The rectangle of a whole block of `A`. -/
abbrev rAw : Rect S3072x1536 := Rect.unit (s := S3072x1536) ![0, 0] S3072x1536.size inb_S3072x1536_S3072x1536_0_0
/-- The rectangle of the whole staging buffer. -/
abbrev rSw : Rect S3072x384 := Rect.unit (s := S3072x384) ![0, 0] S3072x384.size inb_S3072x384_S3072x384_0_0

abbrev WB (o : Fin 2 → Nat) (h : InB o) : Prop := (rB o h).WholeWords (EltTy.packing .bf16)
abbrev WO (o : Fin 2 → Nat) (h : InO o) : Prop := (rO o h).WholeWords (EltTy.packing .bf16)
abbrev PO (o : Fin 2 → Nat) (h : InO o) : Prop := (rO o h).PackedRows (EltTy.packing .bf16)

/-! ### The passes -/

/-- Tell both neighbours that this device has started, and wait for both. -/
def barrierP (y x : Dev nD) : P F := do
  semSignalWord y sBar 1#32
  semSignalWord x sBar 1#32
  semWaitWord sBar 2#32

/-- Stage a chunk of `A`, cast it into place, and send it to the column neighbour. -/
def aP (y : Dev nD) (k : Fin 4) : P F := do
  Prog.lift (.enqueueDma (aHc k) (.here sV) (.dma sAin) (View.wordExact_bits rfl) (Memref.isWhole_whole _).wordExact ⟨Or.inl rfl, trivial⟩)
  Prog.lift (.waitDma2 sAin (aHc k) sV (View.wordExact_bits rfl) (Memref.isWhole_whole _).wordExact)
  let v : Vec F S3072x384 .f32 ← Prog.lift (.load sV rSw.toLoadRect (View.loadsAt_vmem h_S3072x384))
  let _w : Vec F S3072x384 .bf16 ← Prog.lift (.load aV (rA k).toLoadRect (View.loadsAt_vmem h_S3072x384))
  Prog.lift (.store aV (rA k) (k0_pay2 (k0_pay1 v)) Finset.univ (View.stores_vmem h_S3072x384 ((Memref.isWhole_whole _).storeExact_slice rfl _ (packedA k)) (fun _ => rfl)) (.inl rfl))
  Prog.lift (.enqueueDma (aVc k) (.remote (Dev.tc y) (aRc k) (.dma (sAs k))) (.dma (sAr k)) ((Memref.isWhole_whole _).wordExact_slice rfl _ (wordsA k)) ((Memref.isWhole_whole _).wordExact_slice rfl _ (wordsA k)) ⟨⟨rfl, Or.inl rfl⟩, trivial⟩)

/-- Start the copy of a chunk of `B` into VMEM. -/
def bStartP (g : Fin 8) (o : Fin 2 → Nat) (h : InB o) (w : WB o h) : P F :=
  Prog.lift (.enqueueDma (bHc o h) (.here (bVc o h)) (.dma (sBin g)) ((Memref.isWhole_whole _).wordExact_slice rfl _ w) ((Memref.isWhole_whole _).wordExact_slice rfl _ w) ⟨Or.inl rfl, trivial⟩)

/-- Wait for the copy of a chunk of `B`. -/
def bWaitP (g : Fin 8) (o : Fin 2 → Nat) (h : InB o) (w : WB o h) : P F :=
  Prog.lift (.waitDma2 (sBin g) (bHc o h) (bVc o h) ((Memref.isWhole_whole _).wordExact_slice rfl _ w) ((Memref.isWhole_whole _).wordExact_slice rfl _ w))

/-- Send a chunk of `B` to the column neighbour. -/
def bSendP (y : Dev nD) (k : Fin 4) (o : Fin 2 → Nat) (h : InB o) (w : WB o h) : P F :=
  Prog.lift (.enqueueDma (bVc o h) (.remote (Dev.tc y) (bRc k) (.dma (sBs k))) (.dma (sBr k)) ((Memref.isWhole_whole _).wordExact_slice rfl _ w) ((Memref.isWhole_whole _).wordExact_slice rfl _ (wordsR k)) ⟨⟨rfl, Or.inl rfl⟩, trivial⟩)

/-- One chunk of the product of the device's own two blocks. -/
def dotP (o2 : Fin 2 → Nat) (h2 : InB o2) (o3 : Fin 2 → Nat) (h3 : InO o3) (p3 : PO o3 h3) : P F := do
  let v : Vec F S3072x1536 .bf16 ← Prog.lift (.load aV rAw.toLoadRect (View.loadsAt_vmem h_S3072x1536))
  let w : Vec F S1536x384 .bf16 ← Prog.lift (.load bV (rB o2 h2).toLoadRect (View.loadsAt_vmem h_S1536x384))
  let _u : Vec F S3072x384 .bf16 ← Prog.lift (.load oV (rO o3 h3).toLoadRect (View.loadsAt_vmem h_S3072x384))
  Prog.lift (.store oV (rO o3 h3) (k0_pay6 v w) Finset.univ (View.stores_vmem h_S3072x384 ((Memref.isWhole_whole _).storeExact_slice rfl _ p3) (fun _ => rfl)) (.inl rfl))

/-- Tell the row neighbour that its columns here may be overwritten. -/
def readyP (x : Dev nD) : P F := semSignalWord x sReady 1#32

/-- Wait for a chunk of the column neighbour's block of `A`. -/
def aRecvP (k : Fin 4) : P F :=
  Prog.lift (.waitDma2 (sAr k) (aVc k) (aRc k) ((Memref.isWhole_whole _).wordExact_slice rfl _ (wordsA k)) ((Memref.isWhole_whole _).wordExact_slice rfl _ (wordsA k)))

/-- Wait until the row neighbour's columns may be overwritten. -/
def readyWaitP : P F := semWaitWord sReady 1#32

/-- Wait for a chunk of the column neighbour's block of `B`. -/
def bRecvP (k : Fin 4) (o : Fin 2 → Nat) (h : InB o) (w : WB o h) : P F :=
  Prog.lift (.waitDma2 (sBr k) (bVc o h) (bRc k) ((Memref.isWhole_whole _).wordExact_slice rfl _ w) ((Memref.isWhole_whole _).wordExact_slice rfl _ (wordsR k)))

/-- Relay that chunk to the row neighbour. -/
def fSendP (x : Dev nD) (k : Fin 4) (o : Fin 2 → Nat) (h : InB o) (w : WB o h) : P F :=
  Prog.lift (.enqueueDma (bRc k) (.remote (Dev.tc x) (bVc o h) (.dma (sFs k))) (.dma (sFr k)) ((Memref.isWhole_whole _).wordExact_slice rfl _ (wordsR k)) ((Memref.isWhole_whole _).wordExact_slice rfl _ w) ⟨⟨rfl, Or.inl rfl⟩, trivial⟩)

/-- Add to a chunk of the result the product of the received block of `A` and a received chunk of `B`. -/
def accLoP (k : Fin 4) (o3 : Fin 2 → Nat) (h3 : InO o3) (p3 : PO o3 h3) : P F := do
  let v : Vec F S3072x384 .bf16 ← Prog.lift (.load oV (rO o3 h3).toLoadRect (View.loadsAt_vmem h_S3072x384))
  let a : Vec F S3072x1536 .bf16 ← Prog.lift (.load aR rAw.toLoadRect (View.loadsAt_vmem h_S3072x1536))
  let b : Vec F S1536x384 .bf16 ← Prog.lift (.load bR (rR k).toLoadRect (View.loadsAt_vmem h_S1536x384))
  let _u : Vec F S3072x384 .bf16 ← Prog.lift (.load oV (rO o3 h3).toLoadRect (View.loadsAt_vmem h_S3072x384))
  Prog.lift (.store oV (rO o3 h3) (k0_pay15 v a b) Finset.univ (View.stores_vmem h_S3072x384 ((Memref.isWhole_whole _).storeExact_slice rfl _ p3) (fun _ => rfl)) (.inl rfl))

/-- The same with a relayed chunk of `B`. -/
def accHiP (o2 : Fin 2 → Nat) (h2 : InB o2) (o3 : Fin 2 → Nat) (h3 : InO o3) (p3 : PO o3 h3) : P F := do
  let v : Vec F S3072x384 .bf16 ← Prog.lift (.load oV (rO o3 h3).toLoadRect (View.loadsAt_vmem h_S3072x384))
  let a : Vec F S3072x1536 .bf16 ← Prog.lift (.load aR rAw.toLoadRect (View.loadsAt_vmem h_S3072x1536))
  let b : Vec F S1536x384 .bf16 ← Prog.lift (.load bV (rB o2 h2).toLoadRect (View.loadsAt_vmem h_S1536x384))
  let _u : Vec F S3072x384 .bf16 ← Prog.lift (.load oV (rO o3 h3).toLoadRect (View.loadsAt_vmem h_S3072x384))
  Prog.lift (.store oV (rO o3 h3) (k0_pay15 v a b) Finset.univ (View.stores_vmem h_S3072x384 ((Memref.isWhole_whole _).storeExact_slice rfl _ p3) (fun _ => rfl)) (.inl rfl))

/-- Start the copy of a finished chunk of the result into HBM. -/
def outP (g : Fin 8) (o : Fin 2 → Nat) (h : InO o) (w : WO o h) : P F :=
  Prog.lift (.enqueueDma (oVc o h) (.here (oHc o h)) (.dma (sCp g)) ((Memref.isWhole_whole _).wordExact_slice rfl _ w) ((Memref.isWhole_whole _).wordExact_slice rfl _ w) ⟨Or.inl rfl, trivial⟩)

/-- Wait for a relayed chunk of `B`. -/
def fRecvP (k : Fin 4) (o : Fin 2 → Nat) (h : InB o) (w : WB o h) : P F :=
  Prog.lift (.waitDma2 (sFr k) (bVc o h) (bVc o h) ((Memref.isWhole_whole _).wordExact_slice rfl _ w) ((Memref.isWhole_whole _).wordExact_slice rfl _ w))

/-- Wait until a sent chunk of `A` has left. -/
def aDoneP (k : Fin 4) : P F :=
  Prog.lift (.waitDma2 (sAs k) (aRc k) (aVc k) ((Memref.isWhole_whole _).wordExact_slice rfl _ (wordsA k)) ((Memref.isWhole_whole _).wordExact_slice rfl _ (wordsA k)))

/-- Wait until a sent chunk of `B` has left. -/
def bDoneP (k : Fin 4) (o : Fin 2 → Nat) (h : InB o) (w : WB o h) : P F :=
  Prog.lift (.waitDma2 (sBs k) (bRc k) (bVc o h) ((Memref.isWhole_whole _).wordExact_slice rfl _ (wordsR k)) ((Memref.isWhole_whole _).wordExact_slice rfl _ w))

/-- Wait until a relayed chunk of `B` has left. -/
def fDoneP (k : Fin 4) (o : Fin 2 → Nat) (h : InB o) (w : WB o h) : P F :=
  Prog.lift (.waitDma2 (sFs k) (bVc o h) (bRc k) ((Memref.isWhole_whole _).wordExact_slice rfl _ w) ((Memref.isWhole_whole _).wordExact_slice rfl _ (wordsR k)))

/-- Wait until a chunk of the result has arrived in HBM. -/
def outDoneP (g : Fin 8) (o : Fin 2 → Nat) (h : InO o) (w : WO o h) : P F :=
  Prog.lift (.waitDma2 (sCp g) (oVc o h) (oHc o h) ((Memref.isWhole_whole _).wordExact_slice rfl _ w) ((Memref.isWhole_whole _).wordExact_slice rfl _ w))

/-- Chunk `k` of the first four of eight. -/
abbrev lo (k : Fin 4) : Fin 8 := ⟨k.val, by omega⟩
/-- Chunk `k` of the last four of eight. -/
abbrev hi (k : Fin 4) : Fin 8 := ⟨4 + k.val, by omega⟩

/-- The word the kernel computes an offset from. -/
abbrev wd (g : Fin 8) : BitVec 32 := BitVec.ofNat 32 (384 * g.val)

/-- The column neighbour, as the kernel computes it. -/
abbrev devY (d : Dev nD) : Dev nD := ⟨k0_dev1 d, k0_dev1_lt d⟩
/-- The row neighbour, as the kernel computes it. -/
abbrev devX (d : Dev nD) : Dev nD := ⟨k0_dev2 d, k0_dev2_lt d⟩

/-! ### The body as loops over the passes -/

/-- The body on device `d`. -/
def loops (d : Dev nD) : P F := do
  barrierP (devY d) (devX d)
  seq4 fun k => aP (devY d) k
  seq8 fun g => bStartP g (k0_off1 d (wd g)) (k0_off1_inb d g) (k0_off1_wordsbf16 d g)
  seq4 fun k => do
    bWaitP (lo k) (k0_off1 d (wd (lo k))) (k0_off1_inb d (lo k)) (k0_off1_wordsbf16 d (lo k))
    bSendP (devY d) k (k0_off1 d (wd (lo k))) (k0_off1_inb d (lo k)) (k0_off1_wordsbf16 d (lo k))
  seq4 fun k => bWaitP (hi k) (k0_off1 d (wd (hi k))) (k0_off1_inb d (hi k)) (k0_off1_wordsbf16 d (hi k))
  seq8 fun g => dotP (k0_off2 d (wd g)) (k0_off2_inb d g) (k0_off3 d (wd g)) (k0_off3_inb d g) (k0_off3_packedbf16 d g)
  readyP (devX d)
  seq4 fun k => aRecvP k
  readyWaitP
  seq4 fun k => do
    bRecvP k (k0_off1 d (wd (lo k))) (k0_off1_inb d (lo k)) (k0_off1_wordsbf16 d (lo k))
    fSendP (devX d) k (k0_off1 d (wd (lo k))) (k0_off1_inb d (lo k)) (k0_off1_wordsbf16 d (lo k))
    accLoP k (k0_off3 d (wd (lo k))) (k0_off3_inb d (lo k)) (k0_off3_packedbf16 d (lo k))
    outP (lo k) (k0_off4 d (wd (lo k))) (k0_off4_inb d (lo k)) (k0_off4_wordsbf16 d (lo k))
  seq4 fun k => do
    fRecvP k (k0_off1 d (wd (hi k))) (k0_off1_inb d (hi k)) (k0_off1_wordsbf16 d (hi k))
    accHiP (k0_off2 d (wd (hi k))) (k0_off2_inb d (hi k)) (k0_off3 d (wd (hi k))) (k0_off3_inb d (hi k)) (k0_off3_packedbf16 d (hi k))
    outP (hi k) (k0_off4 d (wd (hi k))) (k0_off4_inb d (hi k)) (k0_off4_wordsbf16 d (hi k))
  seq4 fun k => aDoneP k
  seq4 fun k => do
    bDoneP k (k0_off1 d (wd (lo k))) (k0_off1_inb d (lo k)) (k0_off1_wordsbf16 d (lo k))
    fDoneP k (k0_off1 d (wd (lo k))) (k0_off1_inb d (lo k)) (k0_off1_wordsbf16 d (lo k))
  seq8 fun g => outDoneP g (k0_off4 d (wd g)) (k0_off4_inb d g) (k0_off4_wordsbf16 d g)

set_option maxRecDepth 65536 in
set_option maxHeartbeats 4000000 in
/-- The printed body is the loops, at whatever number the device reads. -/
theorem body_eq_loops (t : Fin cfg0.N) :
    bodyAt0 (F := F) t = (Prog.lift .deviceId >>= fun d => loops d) := rfl

end Cert.KernelIdeal.Ag

end
-- ==== Proof.Contents.lean ====
/-
What each buffer of the kernel holds, as a function of the launch's memory.

Device `c` stands at row `c / 2` and column `c % 2` of the mesh. Its column neighbour (the kernel's first peer) is
`devY c`, its row neighbour is `devX c`. A block of `B` and the result are cut into eight chunks of 384 columns,
numbered here by their place in the buffer; `J c g` is the chunk that device `c` handles on pass `g`.
-/
module

public import proofs.«01_k».proof.Proof.Loop
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Pipeline.Value
public import Idealize.ShloMosaic.Lib.ValueIdxCore

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties of the kernel's own semaphores are named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ### The mesh -/

theorem devY_devY (c : Dev nD) : devY (devY c) = c := by revert c; decide
theorem devX_devX (c : Dev nD) : devX (devX c) = c := by revert c; decide
theorem devY_devX (c : Dev nD) : devY (devX c) = devX (devY c) := by revert c; decide
theorem devY_ne_devX (c : Dev nD) : devY c ≠ devX c := by revert c; decide
theorem devY_row (c : Dev nD) : (devY c).val / 2 = c.val / 2 := by revert c; decide
theorem devX_row (c : Dev nD) : (devX c).val / 2 = 1 - c.val / 2 := by revert c; decide
theorem devY_col (c : Dev nD) : (devY c).val % 2 = 1 - c.val % 2 := by revert c; decide
theorem devX_col (c : Dev nD) : (devX c).val % 2 = c.val % 2 := by revert c; decide

/-- Going to the column neighbour and back. -/
def swapY : Dev nD ≃ Dev nD := ⟨devY, devY, devY_devY, devY_devY⟩
/-- Going to the row neighbour and back. -/
def swapX : Dev nD ≃ Dev nD := ⟨devX, devX, devX_devX, devX_devX⟩

/-- The chunk device `c` handles on pass `g`. -/
def J (c : Dev nD) (g : Fin 8) : Fin 8 := ⟨(4 * (c.val / 2) + g.val) % 8, by omega⟩

theorem J_injective (c : Dev nD) : Function.Injective (J c) := by revert c; decide
theorem J_devX_hi (c : Dev nD) (k : Fin 4) : J (devX c) (hi k) = J c (lo k) := by revert c k; decide
theorem J_devX_lo (c : Dev nD) (k : Fin 4) : J (devX c) (lo k) = J c (hi k) := by revert c k; decide
theorem J_lo_val (c : Dev nD) (k : Fin 4) : (J c (lo k)).val = 4 * (c.val / 2) + k.val := by revert c k; decide
theorem J_lo_div (c : Dev nD) (k : Fin 4) : (J c (lo k)).val / 4 = c.val / 2 := by revert c k; decide
theorem J_hi_div (c : Dev nD) (k : Fin 4) : ¬ (J c (hi k)).val / 4 = c.val / 2 := by revert c k; decide

/-- The passes of device `c` are its chunks. -/
def chunks (c : Dev nD) : Fin 8 ≃ Fin 8 := Equiv.ofBijective (J c) (Finite.injective_iff_bijective.mp (J_injective c))

/-- Where chunk `j` starts. -/
def co (j : Fin 8) : Fin 2 → Nat := ![0, 384 * j.val]

theorem inB (j : Fin 8) : InB (co j) := by revert j; decide
theorem inO (j : Fin 8) : InO (co j) := by revert j; decide

theorem co_J (c : Dev nD) (g : Fin 8) : (![0, ((1536 * (c.val / 2) + 384 * g.val) % 3072)] : Fin 2 → Nat) = co (J c g) := by
  revert c g; decide

theorem off1 (c : Dev nD) (g : Fin 8) : k0_off1 c (wd g) = co (J c g) := (k0_off1_eq c g).trans (co_J c g)
theorem off2 (c : Dev nD) (g : Fin 8) : k0_off2 c (wd g) = co (J c g) := (k0_off2_eq c g).trans (co_J c g)
theorem off3 (c : Dev nD) (g : Fin 8) : k0_off3 c (wd g) = co (J c g) := (k0_off3_eq c g).trans (co_J c g)
theorem off4 (c : Dev nD) (g : Fin 8) : k0_off4 c (wd g) = co (J c g) := (k0_off4_eq c g).trans (co_J c g)

/-! ### Pieces of buffers at their chunks -/

abbrev bHj (j : Fin 8) := bHc (co j) (inB j)
abbrev bVj (j : Fin 8) := bVc (co j) (inB j)
abbrev oHj (j : Fin 8) := oHc (co j) (inO j)
abbrev oVj (j : Fin 8) := oVc (co j) (inO j)

theorem co_zero (j : Fin 8) : co j 0 = 0 := rfl

section Blocks

theorem rA_disj (b b' : Fin 4) (h : b ≠ b') : Disjoint (rA b).set (rA b').set :=
  Ring.lead_disjoint (s := S3072x1536) 1 384 (fun k : Fin 4 => ![0, 384 * k.val]) S3072x384.size inbA (fun _ => rfl) rfl b b' h
theorem rA_cover : Finset.univ.biUnion (fun k => (rA k).set) = Finset.univ :=
  Ring.lead_cover (s := S3072x1536) 1 384 (fun k : Fin 4 => ![0, 384 * k.val]) S3072x384.size inbA (fun _ => rfl)
    (fun b a ha => by revert ha; fin_cases a <;> simp) rfl (fun a ha => by revert ha; fin_cases a <;> simp) rfl
theorem rR_disj (b b' : Fin 4) (h : b ≠ b') : Disjoint (rR b).set (rR b').set :=
  Ring.lead_disjoint (s := S1536x1536) 1 384 (fun k : Fin 4 => ![0, 384 * k.val]) S1536x384.size inbR (fun _ => rfl) rfl b b' h
theorem rR_cover : Finset.univ.biUnion (fun k => (rR k).set) = Finset.univ :=
  Ring.lead_cover (s := S1536x1536) 1 384 (fun k : Fin 4 => ![0, 384 * k.val]) S1536x384.size inbR (fun _ => rfl)
    (fun b a ha => by revert ha; fin_cases a <;> simp) rfl (fun a ha => by revert ha; fin_cases a <;> simp) rfl
theorem rB_disj (b b' : Fin 8) (h : b ≠ b') : Disjoint (rB (co b) (inB b)).set (rB (co b') (inB b')).set :=
  Ring.lead_disjoint (s := S1536x3072) 1 384 co S1536x384.size inB (fun _ => rfl) rfl b b' h
theorem rB_cover : Finset.univ.biUnion (fun j => (rB (co j) (inB j)).set) = Finset.univ :=
  Ring.lead_cover (s := S1536x3072) 1 384 co S1536x384.size inB (fun _ => rfl)
    (fun b a ha => by revert ha; fin_cases a <;> simp [co]) rfl (fun a ha => by revert ha; fin_cases a <;> simp) rfl
theorem rO_disj (b b' : Fin 8) (h : b ≠ b') : Disjoint (rO (co b) (inO b)).set (rO (co b') (inO b')).set :=
  Ring.lead_disjoint (s := S3072x3072) 1 384 co S3072x384.size inO (fun _ => rfl) rfl b b' h
theorem rO_cover : Finset.univ.biUnion (fun j => (rO (co j) (inO j)).set) = Finset.univ :=
  Ring.lead_cover (s := S3072x3072) 1 384 co S3072x384.size inO (fun _ => rfl)
    (fun b a ha => by revert ha; fin_cases a <;> simp [co]) rfl (fun a ha => by revert ha; fin_cases a <;> simp) rfl

end Blocks

/-- Device `c` holds share `q` of the piece `v` of a buffer, at the buffer's contents `f`. -/
abbrev own {sp : Space} {s : Shape} {e : EltTy} (c : Dev nD) (v : View sig .tc sp s e) (q : PosShare TreeShare)
    (f : Buf (Elt F) (v.loc (c : Thread nD τ))) : sProp 𝕄 :=
  v.loc (c : Thread nD τ) ↦[v.set]{q} f

section Split
variable (c : Dev nD) (q : PosShare TreeShare)

/-- A buffer held whole is held by any pieces of it that cover it without overlap. -/
theorem cut {n : ℕ} (b : Ref sig .tc) (R : Fin n → Rect b.ty.shape)
    (hd : ∀ i j, i ≠ j → Disjoint (R i).set (R j).set) (hc : Finset.univ.biUnion (fun i => (R i).set) = Finset.univ)
    (f : Buf (Elt F) ((c : Thread nD τ).loc b)) :
    ((c : Thread nD τ).loc b ↦{q} f : sProp 𝕄)
      = bigSep Finset.univ fun i => ((c : Thread nD τ).loc b ↦[((View.whole b).slice (R i)).set]{q} f : sProp 𝕄) := by
  simp only [View.set_slice_whole]
  exact Ring.pointsTo_blocks (ℓ := (c : Thread nD τ).loc b) (fun i => (R i).set) hd hc f

theorem cut_some {n : ℕ} (b : Ref sig .tc) (R : Fin n → Rect b.ty.shape)
    (hd : ∀ i j, i ≠ j → Disjoint (R i).set (R j).set) (hc : Finset.univ.biUnion (fun i => (R i).set) = Finset.univ)
    (f₀ : Buf (Elt F) ((c : Thread nD τ).loc b)) :
    bigSep Finset.univ (fun i => iprop(∃ f, (c : Thread nD τ).loc b ↦[((View.whole b).slice (R i)).set]{q} f))
      ⊢ (iprop(∃ f, (c : Thread nD τ).loc b ↦{q} f) : sProp 𝕄) := by
  simp only [View.set_slice_whole]
  exact Ring.pointsTo_blocks_join_exists (ℓ := (c : Thread nD τ).loc b) (fun i => (R i).set) hd hc f₀

end Split

/-! ### Writing a piece -/

/-- A piece written whole holds, on its own elements, any contents that read there what was written. -/
theorem landed {sp : Space} {s : Shape} {e : EltTy} (c : Dev nD) (v : View sig .tc sp s e) (q : PosShare TreeShare)
    (f g : Buf (Elt F) (v.loc (c : Thread nD τ))) (w : s.Idx → Elt F e) (h : v.read (Elt F) g = w) :
    (own c v q (v.write (Elt F) f w Finset.univ) : sProp 𝕄) = own c v q g := by
  refine pointsTo_congr fun i hi => ?_
  obtain ⟨x, -, rfl⟩ := Finset.mem_map.mp hi
  rw [View.write_emb_of_mem _ _ (Finset.mem_univ x), ← h, View.read_apply]
  simp

/-- Of eight chunks of the result, the buffer that holds them all. -/
def glue (X : Fin 8 → Vec F S3072x384 .bf16) : Vec F S3072x3072 .bf16 := fun i =>
  X ⟨(i 1).val / 384, by have h : (i 1).val < 3072 := (i 1).isLt; omega⟩
    (ValueIdx.ix2 (i 0) ⟨(i 1).val % 384, Nat.mod_lt _ (by decide)⟩)

variable (m : (ℓ : Loc nD τ sig) → Buf (Elt F) ℓ)

/-- Device `c`'s block of `A`. -/
def cA (c : Dev nD) : Buf (Elt F) ((c : Thread nD τ).loc main_arg0) := m ((c : Thread nD τ).loc main_arg0)
/-- Device `c`'s block of `B`. -/
def cB (c : Dev nD) : Buf (Elt F) ((c : Thread nD τ).loc main_arg1) := m ((c : Thread nD τ).loc main_arg1)

/-- Chunk `k` of the block of `A`, staged. -/
def stg (c : Dev nD) (k : Fin 4) : Vec F S3072x384 .f32 := (aHc k).view.read (Elt F) (cA m c)
/-- The block of `A` after the cast. -/
def ab (c : Dev nD) : Vec F S3072x1536 .bf16 := truncf .bf16 (cA m c) bitsLt_bf16_f32
/-- The half of the column neighbour's block of `B` that device `c` receives and relays. -/
def br (c : Dev nD) : Vec F S1536x1536 .bf16 := fun i =>
  cB m (devY c) (ValueIdx.ix2 (i 0) (⟨1536 * (c.val / 2) + (i 1).val, by
    have h : (i 1).val < 1536 := (i 1).isLt
    have hc : c.val < 4 := c.isLt
    omega⟩ : Fin 3072))
/-- Where a relayed chunk of `B` comes from. -/
def fb (c : Dev nD) : Vec F S1536x3072 .bf16 := cB m (devY (devX c))

/-- Chunk `j` of a block of `B`. -/
def ck (j : Fin 8) (f : Vec F S1536x3072 .bf16) : Vec F S1536x384 .bf16 := (bVj j).view.read (Elt F) f

/-- Chunk `j` of the product of device `c`'s own two blocks. -/
def x1 (c : Dev nD) (j : Fin 8) : Vec F S3072x384 .bf16 := k0_pay6 (ab m c) (ck j (cB m c))
/-- The block of `B` whose chunk `j` device `c` multiplies with the received block of `A`. -/
def src (c : Dev nD) (j : Fin 8) : Vec F S1536x3072 .bf16 := if j.val / 4 = c.val / 2 then cB m (devY c) else fb m c
/-- Chunk `j` of the result. -/
def x2 (c : Dev nD) (j : Fin 8) : Vec F S3072x384 .bf16 := k0_pay15 (x1 m c j) (ab m (devY c)) (ck j (src m c j))
/-- The result. -/
def res (c : Dev nD) : Vec F S3072x3072 .bf16 := glue (x2 m c)

/-! ### What the pieces read -/

theorem read_glue (X : Fin 8 → Vec F S3072x384 .bf16) (j : Fin 8) : (oVj j).view.read (Elt F) (glue X) = X j := by
  funext x
  have hx : (x 1).val < 384 := (x 1).isLt
  have e : ((oVj j).view.emb x 1).val = 384 * j.val + 1 * (x 1).val := rfl
  have e0 : ((oVj j).view.emb x 0).val = 0 + 1 * (x 0).val := rfl
  show X _ _ = X j x
  refine congr (congrArg X (Fin.ext ?_)) (funext fun a => ?_)
  · show ((oVj j).view.emb x 1).val / 384 = _
    rw [e]; omega
  · refine Fin.cases ?_ (fun a => Fin.cases ?_ (fun a => a.elim0) a) a
    · exact Fin.ext (by show ((oVj j).view.emb x 0).val = _; rw [e0]; omega)
    · exact Fin.ext (by show ((oVj j).view.emb x 1).val % 384 = (x 1).val; rw [e]; omega)

theorem read_oH (X : Fin 8 → Vec F S3072x384 .bf16) (j : Fin 8) : (oHj j).view.read (Elt F) (glue X) = X j :=
  read_glue X j

theorem read_ab (c : Dev nD) (k : Fin 4) : (aVc k).view.read (Elt F) (ab m c) = k0_pay2 (k0_pay1 (stg m c k)) := by
  unfold k0_pay2 k0_pay1
  rw [shapeCast_self]
  rfl

theorem read_br (c : Dev nD) (k : Fin 4) : (bRc k).view.read (Elt F) (br m c) = ck (J c (lo k)) (cB m (devY c)) := by
  funext x
  have hx : (x 1).val < 384 := (x 1).isLt
  show cB m (devY c) _ = cB m (devY c) _
  congr 1
  funext a
  have e : ((bRc k).view.emb x 1).val = 384 * k.val + 1 * (x 1).val := rfl
  have e' : ((bVj (J c (lo k))).view.emb x 1).val = 384 * (J c (lo k)).val + 1 * (x 1).val := rfl
  refine Fin.cases ?_ (fun a => Fin.cases ?_ (fun a => a.elim0) a) a
  · rfl
  · refine Fin.ext ?_
    show 1536 * (c.val / 2) + ((bRc k).view.emb x 1).val = ((bVj (J c (lo k))).view.emb x 1).val
    rw [e, e', J_lo_val]; omega

theorem br_devY (c : Dev nD) (k : Fin 4) :
    (bRc k).view.read (Elt F) (br m (devY c)) = ck (J c (lo k)) (cB m c) := by
  rw [read_br, devY_devY]
  congr 1
  exact Fin.ext (by rw [J_lo_val, J_lo_val, devY_row])

theorem fb_devX (c : Dev nD) (k : Fin 4) :
    ck (J c (lo k)) (fb m (devX c)) = (bRc k).view.read (Elt F) (br m c) := by
  rw [read_br]; unfold fb; rw [devX_devX]

theorem x2_lo (c : Dev nD) (k : Fin 4) :
    x2 m c (J c (lo k)) = k0_pay15 (x1 m c (J c (lo k))) (ab m (devY c)) ((bRc k).view.read (Elt F) (br m c)) := by
  unfold x2 src; rw [if_pos (J_lo_div c k), read_br]
theorem x2_hi (c : Dev nD) (k : Fin 4) :
    x2 m c (J c (hi k)) = k0_pay15 (x1 m c (J c (hi k))) (ab m (devY c)) (ck (J c (hi k)) (fb m c)) := by
  unfold x2 src; rw [if_neg (J_hi_div c k)]

/-! ### Amounts -/

/-- What a transfer of 384 columns of a block of `A` counts on its semaphore, in bf16. -/
def nA : ℕ := (aVc 0).view.dmaCredit
/-- The same in f32 (the staging copy). -/
def nS : ℕ := (sV : Memref sig .tc .vmem S3072x384 .f32).view.dmaCredit
/-- What a transfer of 384 columns of a block of `B` counts. -/
def nB : ℕ := (bRc 0).view.dmaCredit

theorem nA_pos : 0 < nA := View.dmaCredit_pos _ (by decide)
theorem nS_pos : 0 < nS := View.dmaCredit_pos _ (by decide)
theorem nB_pos : 0 < nB := View.dmaCredit_pos _ (by decide)

theorem credit_sV : (sV : Memref sig .tc .vmem S3072x384 .f32).view.dmaCredit = nS := rfl
theorem credit_aR (k : Fin 4) : (aRc k).view.dmaCredit = nA := rfl
theorem credit_aV (k : Fin 4) : (aVc k).view.dmaCredit = nA := rfl
theorem credit_bR (k : Fin 4) : (bRc k).view.dmaCredit = nB := rfl
theorem credit_bV (o : Fin 2 → Nat) (h : InB o) : (bVc o h).view.dmaCredit = nB := rfl
theorem credit_oH (o : Fin 2 → Nat) (h : InO o) : (oHc o h).view.dmaCredit = nA := rfl

end Cert.KernelIdeal.Ag

end
-- ==== Proof.Sched.lean ====
/-
The protocol: for each semaphore, who pays into it, how much, and which pieces of which buffers the payment hands to
the device that waits.

`Kind` names the semaphores by their use. A staging copy's semaphore goes through four rounds, every other one
through one. The collective barrier is paid by two devices (duty `false` by the column neighbour, which hands over
its two landing buffers; duty `true` by the row neighbour, which hands over nothing), every other semaphore by one.
-/
module

public import proofs.«01_k».proof.Proof.Contents

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The semaphores by their use -/

/-- What a semaphore is for. -/
inductive Kind where
  /-- a chunk of `A` arrives in the staging buffer -/
  | ain
  /-- a chunk of `B` arrives in VMEM -/
  | bin (g : Fin 8)
  /-- a chunk of `A` has left for the column neighbour -/
  | asd (k : Fin 4)
  /-- a chunk of the column neighbour's `A` arrives -/
  | arv (k : Fin 4)
  /-- a chunk of `B` has left for the column neighbour -/
  | bsd (k : Fin 4)
  /-- a chunk of the column neighbour's `B` arrives -/
  | brv (k : Fin 4)
  /-- a relayed chunk of `B` has left for the row neighbour -/
  | fsd (k : Fin 4)
  /-- a relayed chunk of `B` arrives -/
  | frv (k : Fin 4)
  /-- a chunk of the result arrives in HBM -/
  | cp (g : Fin 8)
  /-- the row neighbour's columns of `B` may be overwritten -/
  | ready
  /-- the collective barrier -/
  | bar

/-- The use of each semaphore. -/
def kindOf : SemLoc sig → Kind
  | .dma i =>
    if i.val = 0 then .ain
    else if i.val < 9 then .bin ⟨(i.val - 1) % 8, by omega⟩
    else if i.val < 13 then .asd ⟨(i.val - 9) % 4, by omega⟩
    else if i.val < 17 then .arv ⟨(i.val - 13) % 4, by omega⟩
    else if i.val < 21 then .bsd ⟨(i.val - 17) % 4, by omega⟩
    else if i.val < 25 then .brv ⟨(i.val - 21) % 4, by omega⟩
    else if i.val < 29 then .fsd ⟨(i.val - 25) % 4, by omega⟩
    else if i.val < 33 then .frv ⟨(i.val - 29) % 4, by omega⟩
    else .cp ⟨(i.val - 33) % 8, by omega⟩
  | .reg i => if i.val = 0 then .ready else .bar

theorem kind_ain : kindOf (.dma sAin) = .ain := rfl
theorem kind_bin (g : Fin 8) : kindOf (.dma (sBin g)) = .bin g := by fin_cases g <;> rfl
theorem kind_asd (k : Fin 4) : kindOf (.dma (sAs k)) = .asd k := by fin_cases k <;> rfl
theorem kind_arv (k : Fin 4) : kindOf (.dma (sAr k)) = .arv k := by fin_cases k <;> rfl
theorem kind_bsd (k : Fin 4) : kindOf (.dma (sBs k)) = .bsd k := by fin_cases k <;> rfl
theorem kind_brv (k : Fin 4) : kindOf (.dma (sBr k)) = .brv k := by fin_cases k <;> rfl
theorem kind_fsd (k : Fin 4) : kindOf (.dma (sFs k)) = .fsd k := by fin_cases k <;> rfl
theorem kind_frv (k : Fin 4) : kindOf (.dma (sFr k)) = .frv k := by fin_cases k <;> rfl
theorem kind_cp (g : Fin 8) : kindOf (.dma (sCp g)) = .cp g := by fin_cases g <;> rfl
theorem kind_ready : kindOf (.reg sReady) = .ready := rfl
theorem kind_bar : kindOf (.reg sBar) = .bar := rfl

/-- How many rounds a semaphore goes through. -/
def rnd : Kind → ℕ
  | .ain => 4
  | _ => 1
/-- Who pays in a round. -/
def dty : Kind → Finset Bool
  | .bar => Finset.univ
  | _ => {false}
/-- How much each pays. -/
def amt : Kind → ℕ
  | .ain => nS
  | .asd _ | .arv _ | .cp _ => nA
  | .bin _ | .bsd _ | .brv _ | .fsd _ | .frv _ => nB
  | .ready | .bar => 1
theorem amt_pos (κ : Kind) : 0 < amt κ := by
  cases κ <;> first | exact nS_pos | exact nA_pos | exact nB_pos | exact Nat.one_pos

/-! ### What a payment hands over -/

/-- A piece of a buffer held at some contents. -/
abbrev some' {sp : Space} {s : Shape} {e : EltTy} (c : Dev nD) (v : View sig .tc sp s e) : sProp 𝕄 :=
  iprop(∃ f : Buf (Elt F) (v.loc (c : Thread nD τ)), own c v fullShare f)

/-- Device `c`'s two landing buffers, for what its column neighbour sends. -/
def landing (c : Dev nD) : sProp 𝕄 :=
  iprop((bigSep Finset.univ fun k : Fin 4 => some' (F := F) c (aRc k).view) ∗ bigSep Finset.univ fun k : Fin 4 => some' (F := F) c (bRc k).view)
/-- Device `c`'s columns of `B` that its row neighbour's relay overwrites. -/
def relayed (c : Dev nD) : sProp 𝕄 := bigSep Finset.univ fun k : Fin 4 => some' (F := F) c (bVj (J c (hi k))).view

variable (m : (ℓ : Loc nD τ sig) → Buf (Elt F) ℓ)

/-- What device `c` receives with the payment of duty `d` in round `r` of its semaphore of that use. -/
def pay (c : Dev nD) (r : ℕ) (d : Bool) : Kind → sProp 𝕄
  | .ain => if h : r < 4 then iprop(own c (sV : Memref sig .tc .vmem S3072x384 .f32).view fullShare (stg m c ⟨r, h⟩) ∗ own c (aHc ⟨r, h⟩).view fullShare (cA m c)) else iprop(emp)
  | .bin g => iprop(own c (bVj (J c g)).view fullShare (cB m c) ∗ own c (bHj (J c g)).view fullShare (cB m c))
  | .asd k => own c (aVc k).view fullShare.left (ab m c)
  | .arv k => own c (aRc k).view fullShare (ab m (devY c))
  | .bsd k => own c (bVj (J c (lo k))).view fullShare.left (cB m c)
  | .brv k => own c (bRc k).view fullShare (br m c)
  | .fsd k => own c (bRc k).view fullShare.left (br m c)
  | .frv k => own c (bVj (J c (hi k))).view fullShare (fb m c)
  | .cp g => iprop(own c (oHj (J c g)).view fullShare (res m c) ∗ own c (oVj (J c g)).view fullShare (res m c))
  | .ready => relayed (devX c)
  | .bar => if d then iprop(emp) else landing (devY c)

instance pay_storable (c : Dev nD) (r : ℕ) (d : Bool) (κ : Kind) : BI.Storable (upEmb : UEmb _ 𝕄) (pay m c r d κ) := by
  unfold pay landing relayed
  cases κ <;> dsimp only <;> (repeat' split) <;> infer_instance

/-- The schedule of all semaphores of all devices. -/
def sched : Rounds.Schedule (GSem nD τ sig) Bool 𝕄 where
  duties g r := if r < rnd (kindOf g.2) then dty (kindOf g.2) else ∅
  unitless _ := False
  amount g _ _ := amt (kindOf g.2)
  payload g r d := pay m g.1.1 r d (kindOf g.2)
  amount_pos g _ _ _ := amt_pos _

instance sched_storable (g : GSem nD τ sig) (r : ℕ) (d : Bool) :
    BI.Storable (upEmb : UEmb _ 𝕄) ((sched (F := F) m).payload g r d) := pay_storable m g.1.1 r d (kindOf g.2)

section
variable (c : Dev nD) (sm : SemLoc sig) (r : ℕ)

theorem duties_eq (h : r < rnd (kindOf sm)) : (sched (F := F) m).duties ((c : Thread nD τ), sm) r = dty (kindOf sm) := if_pos h
theorem duties_later (h : rnd (kindOf sm) ≤ r) : (sched (F := F) m).duties ((c : Thread nD τ), sm) r = ∅ := if_neg (Nat.not_lt.mpr h)
theorem false_mem (κ : Kind) : false ∈ dty κ := by
  cases κ <;> first | exact Finset.mem_singleton_self _ | exact Finset.mem_univ _
theorem false_duty (h : r < rnd (kindOf sm)) : false ∈ (sched (F := F) m).duties ((c : Thread nD τ), sm) r := by
  rw [duties_eq m c sm r h]; exact false_mem _

theorem expect_one (h : r < rnd (kindOf sm)) (hd : dty (kindOf sm) = {false}) :
    (sched (F := F) m).expect ((c : Thread nD τ), sm) r = amt (kindOf sm) := by
  unfold Schedule.expect Schedule.amountOf
  rw [duties_eq m c sm r h, hd, Finset.sum_singleton]; rfl
theorem rest_one (h : r < rnd (kindOf sm)) (hd : dty (kindOf sm) = {false}) :
    bigSep ((sched (F := F) m).duties ((c : Thread nD τ), sm) r \ ∅) (fun d => (sched (F := F) m).payload ((c : Thread nD τ), sm) r d)
      = pay m c r false (kindOf sm) := by
  rw [Finset.sdiff_empty, duties_eq m c sm r h, hd, bigSep_singleton]; rfl

theorem expect_bar : (sched (F := F) m).expect ((c : Thread nD τ), .reg sBar) 0 = 2 := by
  unfold Schedule.expect Schedule.amountOf
  rw [duties_eq m c _ 0 (by rw [kind_bar]; decide)]; rfl
theorem rest_bar :
    bigSep ((sched (F := F) m).duties ((c : Thread nD τ), .reg sBar) 0 \ ∅) (fun d => (sched (F := F) m).payload ((c : Thread nD τ), .reg sBar) 0 d)
      = iprop(landing (devY c) ∗ emp) := by
  rw [Finset.sdiff_empty, duties_eq m c _ 0 (by rw [kind_bar]; decide), show dty (kindOf (.reg sBar)) = Finset.univ from rfl,
    bigSep_univ_eq_bigSepL [false, true] (by decide) (by decide), bigSepL_cons_cons, bigSepL_singleton]
  rfl

end

/-! ### What a device owes the others -/

/-- The payments a device makes to other devices' semaphores. -/
inductive Debt where
  | barY
  | barX
  | arv (k : Fin 4)
  | brv (k : Fin 4)
  | ready
  | frv (k : Fin 4)
deriving DecidableEq

/-- Whose semaphore is paid, -/
def debtDev (c : Dev nD) : Debt → Dev nD
  | .barX | .ready | .frv _ => devX c
  | .barY | .arv _ | .brv _ => devY c
/-- which one, -/
def debtSem : Debt → SemLoc sig
  | .barY | .barX => .reg sBar
  | .arv k => .dma (sAr k)
  | .brv k => .dma (sBr k)
  | .ready => .reg sReady
  | .frv k => .dma (sFr k)
abbrev debtCell (c : Dev nD) (d : Debt) : GSem nD τ sig := ((debtDev c d : Thread nD τ), debtSem d)
/-- how much, -/
def debtAmt : Debt → ℕ
  | .barY | .barX | .ready => 1
  | .arv _ => nA
  | .brv _ | .frv _ => nB
/-- and how deep the device that waits for it may be in waiting itself. -/
def debtLev : Debt → ℕ
  | .barY | .barX => 1
  | .arv _ | .brv _ | .ready => 2
  | .frv _ => 3

/-- What is owed while the payments of the list are still to come. -/
def owed (c : Dev nD) : List Debt → CellTallies nD τ sig Unit
  | [] => 0
  | d :: l => owed c l + tallyAt (debtCell c d) () (debtAmt d)

/-- All payments, in the order in which they are made. -/
def allDebts : List Debt :=
  [.barY, .barX, .arv 0, .arv 1, .arv 2, .arv 3, .brv 0, .brv 1, .brv 2, .brv 3, .ready, .frv 0, .frv 1, .frv 2, .frv 3]

def O₀ (c : Dev nD) : CellTallies nD τ sig Unit := owed c allDebts

def L (g : GSem nD τ sig) : Finset Unit := if g.1.2 = .tc then {()} else ∅
def levK : Kind → ℕ
  | .bar => 1
  | .arv _ | .brv _ | .ready => 2
  | .frv _ => 3
  | _ => 0
def lv (g : GSem nD τ sig) (_ : Unit) : ℕ := levK (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_debt (c : Dev nD) (d : Debt) : lv (debtCell c d) () = debtLev d := by
  cases d <;> simp only [lv, debtSem, debtLev, kind_bar, kind_ready, kind_arv, kind_brv, kind_frv, levK]

theorem owed_apply (c : Dev nD) (l : List Debt) (g : GSem nD τ sig) :
    owed c l g () = (l.map fun d => if g = debtCell c d then debtAmt d else 0).sum := by
  induction l with
  | nil => rfl
  | cons d l ih =>
    rw [owed, Pi.add_apply, Finsupp.add_apply, ih, tallyAt_apply, List.map_cons, List.sum_cons, Nat.add_comm]
    congr 1
    by_cases h : g = debtCell c d
    · rw [if_pos ⟨h, rfl⟩, if_pos h]
    · rw [if_neg fun h' => h h'.1, if_neg h]

theorem owed_pos (c : Dev nD) (l : List Debt) (g : GSem nD τ sig) (u : Unit) (h : 0 < owed c l g u) :
    ∃ d ∈ l, g = debtCell c d := by
  cases u
  induction l with
  | nil => exact absurd h (Nat.lt_irrefl 0)
  | cons d l ih =>
    rw [owed, Pi.add_apply, Finsupp.add_apply, tallyAt_apply] at h
    by_cases hg : g = debtCell c d
    · exact ⟨d, List.mem_cons_self, hg⟩
    · rw [if_neg fun h' => hg h'.1, Nat.add_zero] at h
      obtain ⟨d', hd', e⟩ := ih h
      exact ⟨d', List.mem_cons_of_mem _ hd', e⟩

/-- A device may wait on a semaphore while all it owes lies deeper. -/
theorem mayWait (c : Dev nD) (sm : SemLoc sig) (l : List Debt) (h : ∀ d ∈ l, levK (kindOf sm) < debtLev d) :
    (levAts L lv : sProp 𝕄) ⊢ MayWait (c : Thread nD τ) sm () (owed c l) :=
  MayOwe.of_cut (L := L) (lev := lv) (levK (kindOf sm))
    (fun p hp => by rw [Finset.mem_singleton.mp hp, L_tc]; exact Finset.mem_singleton_self _)
    (fun g u hg => by
      obtain ⟨d, -, rfl⟩ := owed_pos c l g u hg
      exact Finset.mem_singleton_self _)
    (fun p hp => by rw [Finset.mem_singleton.mp hp]; exact le_rfl)
    (fun g u hg => by
      obtain ⟨d, hd, rfl⟩ := owed_pos c l g u hg
      rw [lv_debt]; exact h d hd)

/-- What is owed, whatever has been waited on. -/
def due (c : Dev nD) (l : List Debt) : sProp 𝕄 := iprop(∃ W : Waits sig Unit, owes (c : Thread nD τ) (owed c l) W)

/-! ### The shared record -/

/-- Every semaphore of every device obeys the schedule (under the names `K`) and has reached its first round, and the
    levels are as above. -/
def recs (K : Dev nD × SemLoc sig → ℕ) : sProp 𝕄 :=
  iprop((bigSep Finset.univ fun ck : Dev nD × SemLoc sig => cellInv ER (sched m) (K ck) ((ck.1 : Thread nD τ), ck.2))
    ∗ (bigSep Finset.univ fun ck : Dev nD × SemLoc sig => reached ER ((ck.1 : Thread nD τ), ck.2) 0) ∗ levAts L lv)

instance recs_persistent (K : Dev nD × SemLoc sig → ℕ) : BI.Persistent (recs m K) := by unfold recs; infer_instance

section
variable (K : Dev nD × SemLoc sig → ℕ) (c : Dev nD) (sm : SemLoc sig)

theorem recs_inv : recs m K ⊢ cellInv ER (sched m) (K (c, sm)) ((c : Thread nD τ), sm) := by
  unfold recs
  have h : (bigSep Finset.univ fun ck : Dev nD × SemLoc sig => (cellInv ER (sched m) (K ck) ((ck.1 : Thread nD τ), ck.2) : sProp 𝕄))
    ⊢ cellInv ER (sched m) (K (c, sm)) ((c : Thread nD τ), sm) := bigSep_elim (Finset.mem_univ (c, sm))
  iintro ⟨H, -⟩
  iapply h; iexact H
theorem recs_reached : recs m K ⊢ reached ER ((c : Thread nD τ), sm) 0 := by
  unfold recs
  have h : (bigSep Finset.univ fun ck : Dev nD × SemLoc sig => (reached ER ((ck.1 : Thread nD τ), ck.2) 0 : sProp 𝕄))
    ⊢ reached ER ((c : Thread nD τ), sm) 0 := bigSep_elim (Finset.mem_univ (c, sm))
  iintro ⟨-, H, -⟩
  iapply h; iexact H
theorem recs_wait (l : List Debt) (h : ∀ d ∈ l, levK (kindOf sm) < debtLev d) :
    recs m K ⊢ MayWait (c : Thread nD τ) sm () (owed c l) := by
  unfold recs
  iintro ⟨-, -, H⟩
  iapply (mayWait c sm l h); iexact H

end

end Cert.KernelIdeal.Ag

end
-- ==== Proof.Rules.lean ====
/-
The rules by which the passes of the kernel are proved: putting programs one after the other, running a loop, and the
four operations on semaphores at this kernel's schedule — a wait, a local copy, a transfer to a neighbour, a signal.
-/
module

public import Idealize.ShloMosaic.Lib.Pipeline.BigSepL
public import proofs.«01_k».proof.Proof.Sched

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- Program `p` on device `c` runs without fault and ends with `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ### Programs one after the other -/

theorem run_seq {c : Dev nD} {p q : P F} {A B : sProp 𝕄} {C : PUnit → sProp 𝕄} (h₁ : A ⊢ run c p fun _ => B) (h₂ : B ⊢ run c q C) : A ⊢ run c (p >>= fun _ => q) C := by
  unfold run
  rw [wp_bind]
  exact BIBase.Entails.trans h₁ (wp_mono _ _ _ fun _ => h₂)

theorem run_frame {c : Dev nD} {p : P F} {A B R : sProp 𝕄} (h : A ⊢ run c p fun _ => B) : iprop(A ∗ R) ⊢ run c p fun _ => iprop(B ∗ R) :=
  BIBase.Entails.trans (sep_mono_left h) (wp_frame_r _ _ _)

/-- A persistent fact is there for every program. -/
theorem run_seq' {c : Dev nD} {p q : P F} {A B G : sProp 𝕄} {C : PUnit → sProp 𝕄} [BI.Persistent G] (h₁ : iprop(G ∗ A) ⊢ run c p fun _ => B) (h₂ : iprop(G ∗ B) ⊢ run c q C) :
    iprop(G ∗ A) ⊢ run c (p >>= fun _ => q) C := by
  refine run_seq (B := iprop(B ∗ G)) ?_ (BIBase.Entails.trans sep_comm.1 h₂)
  iintro ⟨#HG, HA⟩
  iapply (run_frame (R := G) h₁)
  isplitl [HA]
  · isplitr
    · iexact HG
    · iexact HA
  · iexact HG

/-- A loop: pass `k` turns `T k` into `D k` and carries `R` from one pass to the next. -/
theorem run_seqL {N : ℕ} (c : Dev nD) (f : Fin N → P F) (G : sProp 𝕄) [BI.Persistent G] (T D : Fin N → sProp 𝕄) (R : ℕ → sProp 𝕄)
    (h : ∀ k : Fin N, iprop(G ∗ T k ∗ R k.val) ⊢ run c (f k) fun _ => iprop(D k ∗ R (k.val + 1))) :
    ∀ (l : List (Fin N)) (n : ℕ), l.map Fin.val = List.range' n l.length →
      iprop(G ∗ bigSepL l T ∗ R n) ⊢ run c (seqL f l) fun _ => iprop(bigSepL l D ∗ R (n + l.length))
  | [], n, _ => by
    unfold run seqL
    rw [Prog.pure_eq_ret, wp_ret]
    iintro ⟨-, HT, HR⟩
    imodintro
    isplitl [HT]
    · iexact HT
    · iexact HR
  | k :: l, n, hl => by
    have hl' : k.val = n ∧ l.map Fin.val = List.range' (n + 1) l.length := by
      simpa [List.range'_succ] using hl
    obtain ⟨rfl, hl''⟩ := hl'
    have ih := run_seqL c f G T D R h l (k.val + 1) hl''
    unfold seqL
    refine run_seq (B := iprop((D k ∗ R (k.val + 1)) ∗ G ∗ bigSepL l T)) ?_ ?_
    · rw [bigSepL_cons']
      iintro ⟨#HG, ⟨Hk, HT⟩, HR⟩
      iapply (run_frame (R := iprop(G ∗ bigSepL l T)) (h k))
      isplitl [Hk HR]
      · isplitr; · iexact HG
        isplitl [Hk]; · iexact Hk
        iexact HR
      · isplitr; · iexact HG
        iexact HT
    · rw [bigSepL_cons', List.length_cons, show k.val + (l.length + 1) = k.val + 1 + l.length by omega]
      iintro ⟨⟨HD, HR⟩, HG, HT⟩
      iapply (wp_mono _ _ _ fun _ => (show iprop((bigSepL l D ∗ R (k.val + 1 + l.length)) ∗ D k)
        ⊢ iprop((D k ∗ bigSepL l D) ∗ R (k.val + 1 + l.length)) from by
          iintro ⟨⟨H1, H2⟩, H3⟩
          isplitl [H1 H3]
          · isplitl [H3] <;> iassumption
          · iexact H2))
      iapply (run_frame (R := D k) ih)
      isplitl [HG HT HR]
      · isplitl [HG]; · iexact HG
        isplitl [HT]; · iexact HT
        iexact HR
      · iexact HD

theorem run_seq4 (c : Dev nD) (f : Fin 4 → P F) (G : sProp 𝕄) [BI.Persistent G] (T D : Fin 4 → sProp 𝕄) (R : ℕ → sProp 𝕄)
    (h : ∀ k : Fin 4, iprop(G ∗ T k ∗ R k.val) ⊢ run c (f k) fun _ => iprop(D k ∗ R (k.val + 1))) :
    iprop(G ∗ bigSep Finset.univ T ∗ R 0) ⊢ run c (seq4 f) fun _ => iprop(bigSep Finset.univ D ∗ R 4) := by
  rw [bigSep_univ_eq_bigSepL [0, 1, 2, 3] (by decide) (by decide), bigSep_univ_eq_bigSepL [0, 1, 2, 3] (by decide) (by decide)]
  exact run_seqL c f G T D R h [0, 1, 2, 3] 0 rfl

theorem run_seq8 (c : Dev nD) (f : Fin 8 → P F) (G : sProp 𝕄) [BI.Persistent G] (T D : Fin 8 → sProp 𝕄) (R : ℕ → sProp 𝕄)
    (h : ∀ k : Fin 8, iprop(G ∗ T k ∗ R k.val) ⊢ run c (f k) fun _ => iprop(D k ∗ R (k.val + 1))) :
    iprop(G ∗ bigSep Finset.univ T ∗ R 0) ⊢ run c (seq8 f) fun _ => iprop(bigSep Finset.univ D ∗ R 8) := by
  rw [bigSep_univ_eq_bigSepL [0, 1, 2, 3, 4, 5, 6, 7] (by decide) (by decide), bigSep_univ_eq_bigSepL [0, 1, 2, 3, 4, 5, 6, 7] (by decide) (by decide)]
  exact run_seqL c f G T D R h [0, 1, 2, 3, 4, 5, 6, 7] 0 rfl

/-! ### Operations on semaphores -/

variable (m : (ℓ : Loc nD τ sig) → Buf (Elt F) ℓ) (K : Dev nD × SemLoc sig → ℕ) (c : Dev nD)

section
variable {sp sp' : Space} {s s' : Shape} {e e' : EltTy} {κ : Kind}

/-- A wait takes the round's payload. -/
theorem run_wait {sem : DmaSem sig} {src : Memref sig .tc sp' s' e'} {dst : Memref sig .tc sp s e}
    {hsrc : src.view.WordExact} {hdst : dst.view.WordExact}
    (hκ : kindOf (.dma sem) = κ) (r : ℕ) (hr : r < rnd κ) (hd : dty κ = {false}) (hn : dst.view.dmaCredit = amt κ)
    (l : List Debt) (hl : ∀ d ∈ l, levK κ < debtLev d) :
    iprop(recs m K ∗ cred (tallyAt ((c : Thread nD τ), .dma sem) () (amt κ)) ∗ atPos ER ((c : Thread nD τ), .dma sem) r ∅ 0 ∗ due c l)
      ⊢ run c (Prog.lift (.waitDma2 sem src dst hsrc hdst) : P F) fun _ =>
          iprop(pay m c r false κ ∗ atPos ER ((c : Thread nD τ), .dma sem) (r + 1) ∅ 0 ∗ reached ER ((c : Thread nD τ), .dma sem) (r + 1) ∗ due c l) := by
  subst hκ
  unfold due run Prog.lift
  iintro ⟨#HG, Hc, Hat, ⟨%W, HO⟩⟩
  rw [← hn]
  iapply (Rounds.wp_wait_rest_token 𝒱₀ ER (sched m) (c : Thread nD τ) none (κ := K (c, .dma sem))
      (wpE_waitDma2_eq 𝒱₀ (c : Thread nD τ) none Set.univ) (Set.mem_univ _) () (O := owed c l) (W := W) (R := r) (m := 0) (T := ∅)
      (by rw [Nat.zero_add, hn, expect_one m c _ r hr hd])) $$ [Hc HO Hat]
  · isplitr; · iapply (recs_inv m K c (.dma sem)); iexact HG
    isplitl [Hc]; · iexact Hc
    isplitl [HO]; · iexact HO
    isplitr; · iapply (recs_wait m K c (.dma sem) l hl); iexact HG
    iexact Hat
  iintro ⟨HO, Hat, Hre, Hpay⟩
  ihave Hp := (Entails.of_eq (rest_one m c _ r hr hd)) $$ Hpay
  rw [wp_ret]; imodintro
  isplitl [Hp]; · iexact Hp
  isplitl [Hat]; · iexact Hat
  isplitl [Hre]; · iexact Hre
  iexists _; iexact HO

/-- After its last round a semaphore stands at zero. -/
theorem close (sm : SemLoc sig) (r : ℕ) (hr : rnd (kindOf sm) ≤ r) :
    iprop(recs m K ∗ atPos ER ((c : Thread nD τ), sm) r ∅ 0) ⊢ (|={Set.univ}=> semVal ((c : Thread nD τ), sm) 0 : sProp 𝕄) := by
  refine BIBase.Entails.trans (sep_mono_left (recs_inv m K c sm)) ?_
  exact Rounds.cell_close ER (sched m) (Set.mem_univ _) (fun h => h) (R := r) fun r' h => duties_later m c sm r' (hr.trans h)

/-- The wait on a semaphore of one round. -/
theorem run_wait1 {sem : DmaSem sig} {src : Memref sig .tc sp' s' e'} {dst : Memref sig .tc sp s e}
    {hsrc : src.view.WordExact} {hdst : dst.view.WordExact}
    (hκ : kindOf (.dma sem) = κ) (hr : rnd κ = 1) (hd : dty κ = {false}) (hn : dst.view.dmaCredit = amt κ)
    (l : List Debt) (hl : ∀ d ∈ l, levK κ < debtLev d) :
    iprop(recs m K ∗ cred (tallyAt ((c : Thread nD τ), .dma sem) () (amt κ)) ∗ atPos ER ((c : Thread nD τ), .dma sem) 0 ∅ 0 ∗ due c l)
      ⊢ run c (Prog.lift (.waitDma2 sem src dst hsrc hdst) : P F) fun _ =>
          iprop(pay m c 0 false κ ∗ semVal ((c : Thread nD τ), .dma sem) 0 ∗ due c l) := by
  refine BIBase.Entails.trans ?_ (wp_fupd _ _ _ _ _)
  iintro ⟨#HG, H⟩
  iapply (wp_mono _ _ _ fun _ => (show iprop((pay m c 0 false κ ∗ atPos ER ((c : Thread nD τ), .dma sem) (0 + 1) ∅ 0
      ∗ reached ER ((c : Thread nD τ), .dma sem) (0 + 1) ∗ due c l) ∗ recs m K) ⊢ _ from by
        iintro ⟨⟨Hp, Hat, -, Ho⟩, HG⟩
        imod (close m K c (.dma sem) (0 + 1) (by rw [hκ, hr])) $$ [HG Hat] with Hz
        · isplitl [HG] <;> iassumption
        imodintro
        isplitl [Hp]; · iexact Hp
        isplitl [Hz]; · iexact Hz
        iexact Ho))
  iapply (run_frame (R := recs m K) (run_wait m K c (src := src) (dst := dst) (hsrc := hsrc) (hdst := hdst) hκ 0 (by rw [hr]; decide) hd hn l hl))
  isplitl [H]
  · isplitr; · iexact HG
    iexact H
  · iexact HG

/-- A copy within the device. -/
theorem run_copy {sem : DmaSem sig} {src : Memref sig .tc sp s e} {dst : Memref sig .tc sp' s e}
    {hsrc : src.view.WordExact} {hdst : dst.view.WordExact} {hsem : DmaTarget.Typed (nD := nD) sp (.dma sem) (.here dst : DmaTarget nD τ sig .tc sp' s e)}
    (hκ : kindOf (.dma sem) = κ) (r : ℕ) (hr : r < rnd κ) (hn : dst.view.dmaCredit = amt κ) (q : PosShare TreeShare)
    (fs : Buf (Elt F) (src.view.loc (c : Thread nD τ)))
    (hpay : ∀ fd, iprop(own c dst.view fullShare (dst.view.write (Elt F) fd (src.view.read (Elt F) fs) Finset.univ) ∗ own c src.view q fs)
      ⊢ pay m c r false κ) :
    iprop(recs m K ∗ own c src.view q fs ∗ some' c dst.view ∗ dutyTok ER ((c : Thread nD τ), .dma sem) r false
        ∗ reached ER ((c : Thread nD τ), .dma sem) r)
      ⊢ run c (Prog.lift (.enqueueDma src (.here dst) (.dma sem) hsrc hdst hsem) : P F) fun _ =>
          iprop(cred (tallyAt ((c : Thread nD τ), .dma sem) () (amt κ))) := by
  subst hκ
  unfold run Prog.lift
  iintro ⟨#HG, Hs, ⟨%fd, Hd⟩, Ht, Hr⟩
  iapply (Rounds.wp_copy_pointsTo 𝒱₀ ER (sched m) (c : Thread nD τ) none (κ := K (c, .dma sem)) (fd := fd)
      (false_duty m c (.dma sem) r hr) () (amt (kindOf (.dma sem))) hn rfl (hpay fd)) $$ [Hs Hd Ht Hr]
  · isplitr; · iapply (recs_inv m K c (.dma sem)); iexact HG
    isplitl [Hs]; · iexact Hs
    isplitl [Hd]; · iexact Hd
    isplitl [Ht]; · iexact Ht
    iexact Hr
  iintro Hc
  rw [wp_ret]; imodintro; iexact Hc

/-- A transfer to a neighbour. -/
theorem run_send {y : Dev nD} {sS sem : DmaSem sig} {κ' : Kind} {src : Memref sig .tc sp s e} {dst : Memref sig .tc sp' s e}
    {hsc : (dst : Memref sig (Dev.tc y : Thread nD τ).2.kind sp' s e).view.ref.isScScratch = false}
    {hsrc : src.view.WordExact} {hdst : dst.view.WordExact}
    {hsem : DmaTarget.Typed sp (.dma sem) (.remote (Dev.tc y : Thread nD τ) dst (.dma sS) hsc)}
    (hκ : kindOf (.dma sS) = κ) (hκ' : kindOf (.dma sem) = κ') (hr : rnd κ = 1) (hr' : rnd κ' = 1)
    (hn : dst.view.dmaCredit = amt κ) (ha : amt κ' = amt κ) (q : PosShare TreeShare)
    (fs : Buf (Elt F) (src.view.loc (c : Thread nD τ))) (d : Debt) (l : List Debt)
    (hO : owed c (d :: l) = owed c l + tallyAt ((y : Thread nD τ), .dma sem) () (amt κ))
    (hpay : own c src.view q fs ⊢ pay m c 0 false κ)
    (hpay' : ∀ fd, own y dst.view fullShare (dst.view.write (Elt F) fd (src.view.read (Elt F) fs) Finset.univ) ⊢ pay m y 0 false κ') :
    iprop(recs m K ∗ own c src.view q fs ∗ some' y dst.view ∗ dutyTok ER ((c : Thread nD τ), .dma sS) 0 false
        ∗ dutyTok ER ((y : Thread nD τ), .dma sem) 0 false ∗ due c (d :: l))
      ⊢ run c (Prog.lift (.enqueueDma src (.remote (Dev.tc y) dst (.dma sS) hsc) (.dma sem) hsrc hdst hsem) : P F) fun _ =>
          iprop(cred (tallyAt ((c : Thread nD τ), .dma sS) () (amt κ)) ∗ due c l) := by
  subst hκ
  subst hκ'
  unfold run Prog.lift due
  iintro ⟨#HG, Hs, ⟨%fd, Hd⟩, Ht, Ht', ⟨%W, HO⟩⟩
  iapply (Rounds.wp_send_pointsTo 𝒱₀ ER (sched m) (c : Thread nD τ) none (κ₁ := K (c, .dma sS)) (κ₂ := K (y, .dma sem))
      (r₁ := 0) (r₂ := 0) (d₁ := false) (d₂ := false) (fd := fd)
      (false_duty m c (.dma sS) 0 (by rw [hr]; decide)) (false_duty m y (.dma sem) 0 (by rw [hr']; decide))
      () () (amt (kindOf (.dma sS))) hn rfl ha (owed c l) hO (W := W) hpay (hpay' fd)) $$ [Hs Hd Ht Ht' HO]
  · isplitr; · iapply (recs_inv m K c (.dma sS)); iexact HG
    isplitr; · iapply (recs_inv m K y (.dma sem)); iexact HG
    isplitl [Hs]; · iexact Hs
    isplitl [Hd]; · iexact Hd
    isplitl [HO]; · iexact HO
    isplitl [Ht]; · iexact Ht
    isplitr; · iapply (recs_reached m K c (.dma sS)); iexact HG
    isplitl [Ht']; · iexact Ht'
    iapply (recs_reached m K y (.dma sem)); iexact HG
  iintro ⟨Hc, HO⟩
  rw [wp_ret]; imodintro
  isplitl [Hc]; · iexact Hc
  iexists W; iexact HO

/-- A signal of one unit to a neighbour. -/
theorem run_signal {y : Dev nD} {sem : Sem sig} (hκ : kindOf (.reg sem) = κ) (hr : rnd κ = 1) (ha : amt κ = 1) (b : Bool) (hb : b ∈ dty κ)
    (d : Debt) (l : List Debt) (hO : owed c (d :: l) = owed c l + tallyAt ((y : Thread nD τ), .reg sem) () 1) :
    iprop(recs m K ∗ pay m y 0 b κ ∗ dutyTok ER ((y : Thread nD τ), .reg sem) 0 b ∗ due c (d :: l))
      ⊢ run c (semSignalWord y sem 1#32 : P F) fun _ => due c l := by
  subst hκ
  unfold run semSignalWord due
  iintro ⟨#HG, Hp, Ht, ⟨%W, HO⟩⟩
  iapply (Rounds.wp_signal 𝒱₀ ER (sched m) (c : Thread nD τ) none (dst := (y : Thread nD τ)) (κ := K (y, .reg sem)) (r := 0)
      (d := b) (by rw [duties_eq m y _ 0 (by rw [hr]; decide)]; exact hb) (ha.trans (by decide)) () (owed c l) (hO.trans rfl) (W := W)) $$ [HO Ht Hp]
  · isplitr; · iapply (recs_inv m K y (.reg sem)); iexact HG
    isplitl [HO]; · iexact HO
    isplitl [Ht]; · iexact Ht
    isplitl [Hp]
    · iapply (Entails.of_eq (show pay m y 0 b (kindOf (.reg sem)) = (sched m).payload ((y : Thread nD τ), .reg sem) 0 b from rfl))
      iexact Hp
    iapply (recs_reached m K y (.reg sem)); iexact HG
  iintro HO
  rw [wp_ret]; imodintro; iexists W; iexact HO

end

/-- The wait on a regular semaphore of one round. -/
theorem run_semWait {sem : Sem sig} (w : BitVec 32) (n : ℕ) (hw : w.toInt = (n : ℤ)) (hr : rnd (kindOf (.reg sem)) = 1)
    (hn : (sched (F := F) m).expect ((c : Thread nD τ), .reg sem) 0 = n)
    (l : List Debt) (hl : ∀ d ∈ l, levK (kindOf (.reg sem)) < debtLev d) :
    iprop(recs m K ∗ cred (tallyAt ((c : Thread nD τ), .reg sem) () n) ∗ atPos ER ((c : Thread nD τ), .reg sem) 0 ∅ 0 ∗ due c l)
      ⊢ run c (semWaitWord sem w : P F) fun _ =>
          iprop((bigSep ((sched (F := F) m).duties ((c : Thread nD τ), .reg sem) 0 \ ∅) fun d => (sched (F := F) m).payload ((c : Thread nD τ), .reg sem) 0 d)
            ∗ semVal ((c : Thread nD τ), .reg sem) 0 ∗ due c l) := by
  unfold due run semWaitWord
  rw [hw]
  iintro ⟨#HG, Hc, Hat, ⟨%W, HO⟩⟩
  iapply (Rounds.wp_wait_rest_token 𝒱₀ ER (sched m) (c : Thread nD τ) none (κ := K (c, .reg sem))
      (wpE_semWait_eq 𝒱₀ (c : Thread nD τ) none Set.univ) (Set.mem_univ _) () (O := owed c l) (W := W) (R := 0) (m := 0) (T := ∅)
      (by rw [Nat.zero_add, hn])) $$ [Hc HO Hat]
  · isplitr; · iapply (recs_inv m K c (.reg sem)); iexact HG
    isplitl [Hc]; · iexact Hc
    isplitl [HO]; · iexact HO
    isplitr; · iapply (recs_wait m K c (.reg sem) l hl); iexact HG
    iexact Hat
  iintro ⟨HO, Hat, -, Hpay⟩
  rw [wp_ret]
  imod (close m K c (.reg sem) (0 + 1) (by rw [hr])) $$ [Hat] with Hz
  · isplitr; · iexact HG
    iexact Hat
  imodintro
  isplitl [Hpay]; · iexact Hpay
  isplitl [Hz]; · iexact Hz
  iexists _; iexact HO

/-! ### One step of a longer program -/

section
variable {c}

/-- The first of two programs by its own statement, the second from what that leaves. -/
theorem step {p q : P F} {A B : sProp 𝕄} {C : PUnit → sProp 𝕄} (h : A ⊢ run c p fun _ => B) :
    A ⊢ iprop((B -∗ run c q C) -∗ run c (p >>= fun _ => q) C) := by
  unfold run
  rw [wp_bind]
  iintro HA HB
  iapply (wp_mono _ _ _ fun _ => (show iprop(B ∗ (B -∗ run c q C)) ⊢ run c q C from by
    iintro ⟨H, Hw⟩; iapply Hw; iexact H))
  iapply (run_frame (R := iprop(B -∗ run c q C)) h)
  isplitl [HA]; · iexact HA
  iexact HB

/-- The last program. -/
theorem last {p : P F} {A B : sProp 𝕄} {C : PUnit → sProp 𝕄} (h : A ⊢ run c p fun _ => B) :
    A ⊢ iprop((B -∗ C ⟨⟩) -∗ run c p C) := by
  iintro HA HB
  iapply (wp_mono _ _ _ fun x => (show iprop(B ∗ (B -∗ C ⟨⟩)) ⊢ C x from by
    iintro ⟨H, Hw⟩; iapply Hw; iexact H))
  iapply (run_frame (R := iprop(B -∗ C ⟨⟩)) h)
  isplitl [HA]; · iexact HA
  iexact HB

variable {sp : CoreSpace} {s : Shape} {e : EltTy}

/-- A load gives what the loaded piece of the buffer reads. -/
theorem step_load {M : Memref sig .tc sp s e} {r : Rect s} {hl : M.view.LoadsAt r.toLoadRect} {S : Finset (Idx ((M.access r).loc (c : Thread nD τ)))}
    {q : PosShare TreeShare} {f : Buf (Elt F) ((M.access r).loc (c : Thread nD τ))} (hS : (M.access r).set ⊆ S)
    {k : (r.shape.Idx → Elt F e) → P F} {C : PUnit → sProp 𝕄} :
    ((M.access r).loc (c : Thread nD τ) ↦[S]{q} f : sProp 𝕄)
      ⊢ iprop((((M.access r).loc (c : Thread nD τ) ↦[S]{q} f) -∗ run c (k ((M.access r).read (Elt F) f)) C)
        -∗ run c (Prog.lift (.load M r.toLoadRect hl) >>= k) C) :=
  wp_load_rect (defs := defs₀) 𝒱₀ (c : Thread nD τ) none Set.univ (hl := hl) hS

/-- A store of a whole piece leaves it at any contents that read there what was stored. -/
theorem step_store {M : Memref sig .tc sp s e} {r : Rect s} {w : r.shape.Idx → Elt F e}
    {hx : (M.access r).Stores Finset.univ} {hm : Finset.univ = Finset.univ ∨ ∀ a, r.stride a = 1}
    {f : Buf (Elt F) ((M.access r).loc (c : Thread nD τ))} (g : Buf (Elt F) ((M.access r).loc (c : Thread nD τ)))
    (hg : (M.access r).read (Elt F) g = w) {q : P F} {C : PUnit → sProp 𝕄} :
    (own c (M.access r) fullShare f : sProp 𝕄)
      ⊢ iprop((own c (M.access r) fullShare g -∗ run c q C)
        -∗ run c (Prog.lift (.store M r w Finset.univ hx hm) >>= fun _ => q) C) := by
  rw [← landed c (M.access r) fullShare f g w hg]
  have h := fun hS => wp_store (defs := defs₀) (Γ := []) (Q := C) (k := fun _ => q) 𝒱₀ (c : Thread nD τ) none Set.univ (m := M) (r := r) (w := w) (Mk := Finset.univ) (hx := hx) (hm := hm) (f := f) (S := (M.access r).set) hS
  exact h (Finset.Subset.refl _)

/-- The same, as the last operation. -/
theorem last_store {M : Memref sig .tc sp s e} {r : Rect s} {w : r.shape.Idx → Elt F e}
    {hx : (M.access r).Stores Finset.univ} {hm : Finset.univ = Finset.univ ∨ ∀ a, r.stride a = 1}
    {f : Buf (Elt F) ((M.access r).loc (c : Thread nD τ))} (g : Buf (Elt F) ((M.access r).loc (c : Thread nD τ)))
    (hg : (M.access r).read (Elt F) g = w) {C : PUnit → sProp 𝕄} :
    (own c (M.access r) fullShare f : sProp 𝕄)
      ⊢ iprop((own c (M.access r) fullShare g -∗ C ⟨⟩) -∗ run c (Prog.lift (.store M r w Finset.univ hx hm)) C) := by
  rw [← landed c (M.access r) fullShare f g w hg]
  iintro H HC
  iapply (wp_store (defs := defs₀) 𝒱₀ (c : Thread nD τ) none Set.univ (m := M) (r := r) (w := w) (Mk := Finset.univ) (hx := hx) (hm := hm) (f := f) (S := (M.access r).set) (Finset.Subset.refl _)) $$ H
  iintro H
  rw [wp_ret]; imodintro
  iapply HC; iexact H

end

end Cert.KernelIdeal.Ag

end
-- ==== Proof.Steps.lean ====
/-
Each pass of the kernel, run once: what it takes, what it leaves.

All statements are about one device `c`, whichever it is. `recs m K` is the shared record of the semaphores; `due c l`
is what the device still owes the others, the list `l` in the order in which it pays.
-/
module

public import proofs.«01_k».proof.Proof.Rules

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (c : Dev nD) (sm : SemLoc sig)

/-- The right to pay duty `d` of round `r` of a semaphore. -/
abbrev tok (r : ℕ) (d : Bool) : sProp 𝕄 := dutyTok ER ((c : Thread nD τ), sm) r d
/-- The owner of a semaphore stands at the start of round `r`. -/
abbrev pos (r : ℕ) : sProp 𝕄 := atPos ER ((c : Thread nD τ), sm) r ∅ 0
/-- A payment of `n` to the semaphore is under way. -/
abbrev crd (n : ℕ) : sProp 𝕄 := cred (tallyAt ((c : Thread nD τ), sm) () n)
/-- The semaphore is done with, and at zero. -/
abbrev nil (_ : Unit) : sProp 𝕄 := semVal ((c : Thread nD τ), sm) 0
end

/-- Half of a piece may be lent while the other half is read. -/
theorem halves {sp : Space} {s : Shape} {e : EltTy} (c : Dev nD) (v : View sig .tc sp s e) (f : Buf (Elt F) (v.loc (c : Thread nD τ))) :
    (own c v fullShare f : sProp 𝕄) ⊣⊢ iprop(own c v fullShare.left f ∗ own c v fullShare.right f) :=
  pointsTo_share (PosShare.mem_left_op_right fullShare)

variable (m : (ℓ : Loc nD τ sig) → Buf (Elt F) ℓ) (K : Dev nD × SemLoc sig → ℕ) (c : Dev nD)

theorem lev_pos (l : List Debt) : ∀ d ∈ l, 0 < debtLev d := by
  intro d _; cases d <;> simp only [debtLev] <;> decide

/-! ### The barrier -/

theorem barrier_run (l : List Debt) (hl : ∀ d ∈ l, 1 < debtLev d) :
    iprop(recs m K ∗ due c (.barY :: .barX :: l) ∗ tok (devY c) (.reg sBar) 0 false ∗ tok (devX c) (.reg sBar) 0 true
        ∗ landing c ∗ crd c (.reg sBar) 2 ∗ pos c (.reg sBar) 0)
      ⊢ run c (barrierP (F := F) (devY c) (devX c)) fun _ => iprop(due c l ∗ nil c (.reg sBar) () ∗ landing (devY c)) := by
  unfold barrierP
  iintro ⟨#HG, Hd, Ht, Ht', Hl, Hc, Ha⟩
  iapply (step (run_signal m K c (y := devY c) (sem := sBar) kind_bar rfl rfl false (Finset.mem_univ _) .barY (.barX :: l) rfl)) $$ [Hl Ht Hd]
  · isplitr; · iexact HG
    isplitl [Hl]
    · iapply (Entails.of_eq (show landing (F := F) c = pay m (devY c) 0 false .bar from
        (congrArg landing (devY_devY c)).symm))
      iexact Hl
    isplitl [Ht] <;> iassumption
  iintro Hd
  iapply (step (run_signal m K c (y := devX c) (sem := sBar) kind_bar rfl rfl true (Finset.mem_univ _) .barX l rfl)) $$ [Ht' Hd]
  · isplitr; · iexact HG
    isplitr
    · iapply (Entails.of_eq (show (iprop(emp) : sProp 𝕄) = pay m (devX c) 0 true .bar from rfl))
      iempintro
    isplitl [Ht'] <;> iassumption
  iintro Hd
  iapply (last (run_semWait m K c (sem := sBar) 2#32 2 rfl rfl (expect_bar m c) l hl)) $$ [Hc Ha Hd]
  · isplitr; · iexact HG
    isplitl [Hc]; · iexact Hc
    isplitl [Ha] <;> iassumption
  rw [rest_bar]
  iintro ⟨⟨Hl, -⟩, Hz, Hd⟩
  isplitl [Hd]; · iexact Hd
  isplitl [Hz] <;> iassumption

/-! ### A chunk of `A`: staged, cast, sent -/

theorem aP_run (k : Fin 4) (l : List Debt) :
    iprop(recs m K ∗ (own c (aHc k).view fullShare (cA m c) ∗ some' c (aVc k).view ∗ some' (devY c) (aRc k).view
          ∗ tok c (.dma sAin) k.val false ∗ tok c (.dma (sAs k)) 0 false ∗ tok (devY c) (.dma (sAr k)) 0 false)
        ∗ due c (.arv k :: l) ∗ pos c (.dma sAin) k.val ∗ reached ER ((c : Thread nD τ), .dma sAin) k.val
        ∗ some' c (sV : Memref sig .tc .vmem S3072x384 .f32).view)
      ⊢ run c (aP (F := F) (devY c) k) fun _ =>
        iprop((own c (aHc k).view fullShare (cA m c) ∗ own c (aVc k).view fullShare.right (ab m c) ∗ crd c (.dma (sAs k)) nA)
          ∗ due c l ∗ pos c (.dma sAin) (k.val + 1) ∗ reached ER ((c : Thread nD τ), .dma sAin) (k.val + 1)
          ∗ some' c (sV : Memref sig .tc .vmem S3072x384 .f32).view) := by
  unfold aP
  have hp : pay m c k.val false .ain = iprop(own c (sV : Memref sig .tc .vmem S3072x384 .f32).view fullShare (stg m c k)
      ∗ own c (aHc k).view fullShare (cA m c)) := by
    unfold pay; exact dif_pos k.isLt
  iintro ⟨#HG, ⟨HaH, ⟨%f₀, HaV⟩, HaR, Ht, Hts, Htr⟩, Hd, Ha, Hr, Hs⟩
  iapply (step (run_copy m K c (src := aHc k) (dst := sV) kind_ain k.val k.isLt credit_sV fullShare (cA m c) (fun fd => by
      rw [hp]
      exact sep_mono_left (Entails.of_eq (landed c (sV : Memref sig .tc .vmem S3072x384 .f32).view fullShare fd (stg m c k) _ rfl))))) $$ [HaH Hs Ht Hr]
  · isplitr; · iexact HG
    isplitl [HaH]; · iexact HaH
    isplitl [Hs]; · iexact Hs
    isplitl [Ht] <;> iassumption
  iintro Hc
  iapply (step (run_wait m K c (src := aHc k) (dst := sV) kind_ain k.val k.isLt rfl credit_sV _ (lev_pos _))) $$ [Hc Ha Hd]
  · isplitr; · iexact HG
    isplitl [Hc]; · iexact Hc
    isplitl [Ha] <;> iassumption
  rw [hp]
  iintro ⟨⟨Hs, HaH⟩, Ha, Hr, Hd⟩
  iapply (step_load (M := sV) (r := rSw) (S := (sV : Memref sig .tc .vmem S3072x384 .f32).view.set) (fun i _ => Finset.mem_map.mpr ⟨i, Finset.mem_univ _, rfl⟩)) $$ Hs
  iintro Hs
  rw [show (sV.access rSw).read (Elt F) (stg m c k) = stg m c k from
    Memref.read_access_unit_zero (Elt F) cc0_scratch5 (by decide) _ _]
  iapply (step_load (M := aV) (r := rA k) (S := (aVc k).view.set) (Finset.Subset.refl _)) $$ HaV
  iintro HaV
  iapply (step_store (M := aV) (r := rA k) (ab m c) (read_ab m c k)) $$ HaV
  iintro HaV
  ihave HaV := (halves c (aVc k).view (ab m c)).1 $$ HaV
  icases HaV with ⟨HaL, HaV⟩
  iapply (last (run_send m K c (y := devY c) (sS := sAs k) (sem := sAr k) (src := aVc k) (dst := aRc k) (kind_asd k) (kind_arv k) rfl rfl (credit_aR k) rfl
      fullShare.left (ab m c) (.arv k) l rfl .rfl (fun fd =>
        Entails.of_eq (landed (devY c) (aRc k).view fullShare fd (ab m (devY (devY c))) _ (by rw [devY_devY]; rfl))))) $$ [HaL HaR Hts Htr Hd]
  · isplitr; · iexact HG
    isplitl [HaL]; · iexact HaL
    isplitl [HaR]; · iexact HaR
    isplitl [Hts]; · iexact Hts
    isplitl [Htr] <;> iassumption
  iintro ⟨Hc, Hd⟩
  isplitl [HaH HaV Hc]
  · isplitl [HaH]; · iexact HaH
    isplitl [HaV]; · iexact HaV
    iexact Hc
  isplitl [Hd]; · iexact Hd
  isplitl [Ha]; · iexact Ha
  isplitl [Hr]; · iexact Hr
  iexists _; iexact Hs

/-! ### Chunks of `B` -/

theorem bStart_run (g : Fin 8) (o : Fin 2 → Nat) (h : InB o) (w : WB o h) (ho : o = co (J c g)) :
    iprop(recs m K ∗ own c (bHj (J c g)).view fullShare (cB m c) ∗ some' c (bVj (J c g)).view ∗ tok c (.dma (sBin g)) 0 false)
      ⊢ run c (bStartP (F := F) g o h w) fun _ => crd c (.dma (sBin g)) nB := by
  subst ho
  iintro ⟨#HG, Hs, Hd, Ht⟩
  iapply (run_copy m K c (src := bHj (J c g)) (dst := bVj (J c g)) (kind_bin g) 0 Nat.one_pos (credit_bV _ _) fullShare (cB m c) (fun fd =>
    sep_mono_left (Entails.of_eq (landed c (bVj (J c g)).view fullShare fd (cB m c) _ rfl))))
  isplitr; · iexact HG
  isplitl [Hs]; · iexact Hs
  isplitl [Hd]; · iexact Hd
  isplitl [Ht]; · iexact Ht
  iapply (recs_reached m K c (.dma (sBin g))); iexact HG

/-- A chunk of `B` has arrived. -/
theorem bWait_run (g : Fin 8) (o : Fin 2 → Nat) (h : InB o) (w : WB o h) (l : List Debt) (hl : ∀ d ∈ l, levK (.bin g) < debtLev d) :
    iprop(recs m K ∗ crd c (.dma (sBin g)) nB ∗ pos c (.dma (sBin g)) 0 ∗ due c l)
      ⊢ run c (bWaitP (F := F) g o h w) fun _ => iprop((own c (bVj (J c g)).view fullShare (cB m c) ∗ own c (bHj (J c g)).view fullShare (cB m c)) ∗ nil c (.dma (sBin g)) () ∗ due c l) :=
  run_wait1 m K c (src := bHc o h) (dst := bVc o h) (kind_bin g) rfl rfl (credit_bV o h) l hl

theorem bSend_run (k : Fin 4) (o : Fin 2 → Nat) (h : InB o) (w : WB o h) (ho : o = co (J c (lo k))) (l : List Debt) :
    iprop(recs m K ∗ own c (bVj (J c (lo k))).view fullShare (cB m c) ∗ some' (devY c) (bRc k).view
        ∗ tok c (.dma (sBs k)) 0 false ∗ tok (devY c) (.dma (sBr k)) 0 false ∗ due c (.brv k :: l))
      ⊢ run c (bSendP (F := F) (devY c) k o h w) fun _ =>
        iprop(own c (bVj (J c (lo k))).view fullShare.right (cB m c) ∗ crd c (.dma (sBs k)) nB ∗ due c l) := by
  subst ho
  iintro ⟨#HG, Hs, Hd, Hts, Htr, Ho⟩
  ihave Hs := (halves c (bVj (J c (lo k))).view (cB m c)).1 $$ Hs
  icases Hs with ⟨HL, HR⟩
  iapply (last (run_send m K c (y := devY c) (sS := sBs k) (sem := sBr k) (src := bVj (J c (lo k))) (dst := bRc k) (kind_bsd k) (kind_brv k) rfl rfl (credit_bR k) rfl
      fullShare.left (cB m c) (.brv k) l rfl .rfl (fun fd =>
        Entails.of_eq (landed (devY c) (bRc k).view fullShare fd (br m (devY c)) _ (br_devY m c k))))) $$ [HL Hd Hts Htr Ho]
  · isplitr; · iexact HG
    isplitl [HL]; · iexact HL
    isplitl [Hd]; · iexact Hd
    isplitl [Hts]; · iexact Hts
    isplitl [Htr]; · iexact Htr
    iexact Ho
  iintro ⟨Hc, Ho⟩
  isplitl [HR]; · iexact HR
  isplitl [Hc]; · iexact Hc
  iexact Ho

/-! ### The two products -/

theorem dot_run (j : Fin 8) (o2 : Fin 2 → Nat) (h2 : InB o2) (o3 : Fin 2 → Nat) (h3 : InO o3) (p3 : PO o3 h3)
    (e2 : o2 = co j) (e3 : o3 = co j) (q q' : PosShare TreeShare) :
    iprop(own c (bVj j).view q' (cB m c) ∗ some' c (oVj j).view ∗ ((c : Thread nD τ).loc cc0_scratch0 ↦{q} ab m c))
      ⊢ run c (dotP (F := F) o2 h2 o3 h3 p3) fun _ =>
        iprop((own c (bVj j).view q' (cB m c) ∗ own c (oVj j).view fullShare (glue (x1 m c))) ∗ ((c : Thread nD τ).loc cc0_scratch0 ↦{q} ab m c)) := by
  subst e2; subst e3
  unfold dotP
  iintro ⟨Hb, ⟨%f, Ho⟩, Ha⟩
  iapply (step_load (M := aV) (r := rAw) (S := Finset.univ) (Finset.subset_univ _)) $$ Ha
  iintro Ha
  rw [show (aV.access rAw).read (Elt F) (ab m c) = ab m c from
    Memref.read_access_unit_zero (Elt F) cc0_scratch0 (by decide) _ _]
  iapply (step_load (M := bV) (r := rB (co j) h2) (S := (bVj j).view.set) (Finset.Subset.refl _)) $$ Hb
  iintro Hb
  iapply (step_load (M := oV) (r := rO (co j) h3) (S := (oVj j).view.set) (Finset.Subset.refl _)) $$ Ho
  iintro Ho
  iapply (last_store (M := oV) (r := rO (co j) h3) (glue (x1 m c)) (read_glue (x1 m c) j)) $$ Ho
  iintro Ho
  isplitl [Hb Ho]
  · isplitl [Hb] <;> iassumption
  · iexact Ha

theorem accLo_run (k : Fin 4) (o3 : Fin 2 → Nat) (h3 : InO o3) (p3 : PO o3 h3) (e3 : o3 = co (J c (lo k))) (q q' : PosShare TreeShare) :
    iprop(own c (oVj (J c (lo k))).view fullShare (glue (x1 m c)) ∗ own c (bRc k).view q' (br m c)
        ∗ ((c : Thread nD τ).loc cc0_scratch3 ↦{q} ab m (devY c)))
      ⊢ run c (accLoP (F := F) k o3 h3 p3) fun _ =>
        iprop(own c (oVj (J c (lo k))).view fullShare (res m c) ∗ own c (bRc k).view q' (br m c)
          ∗ ((c : Thread nD τ).loc cc0_scratch3 ↦{q} ab m (devY c))) := by
  subst e3
  unfold accLoP
  iintro ⟨Ho, Hb, Ha⟩
  iapply (step_load (M := oV) (r := rO (co (J c (lo k))) h3) (S := (oVj (J c (lo k))).view.set) (Finset.Subset.refl _)) $$ Ho
  iintro Ho
  iapply (step_load (M := aR) (r := rAw) (S := Finset.univ) (Finset.subset_univ _)) $$ Ha
  iintro Ha
  rw [show (aR.access rAw).read (Elt F) (ab m (devY c)) = ab m (devY c) from
    Memref.read_access_unit_zero (Elt F) cc0_scratch3 (by decide) _ _]
  iapply (step_load (M := bR) (r := rR k) (S := (bRc k).view.set) (Finset.Subset.refl _)) $$ Hb
  iintro Hb
  iapply (step_load (M := oV) (r := rO (co (J c (lo k))) h3) (S := (oVj (J c (lo k))).view.set) (Finset.Subset.refl _)) $$ Ho
  iintro Ho
  iapply (last_store (M := oV) (r := rO (co (J c (lo k))) h3) (res m c)
    ((read_glue (x2 m c) (J c (lo k))).trans ((x2_lo m c k).trans
      (congrArg (fun v => k0_pay15 v _ _) (read_glue (x1 m c) (J c (lo k))).symm)))) $$ Ho
  iintro Ho
  isplitl [Ho]; · iexact Ho
  isplitl [Hb] <;> iassumption

theorem accHi_run (k : Fin 4) (o2 : Fin 2 → Nat) (h2 : InB o2) (o3 : Fin 2 → Nat) (h3 : InO o3) (p3 : PO o3 h3)
    (e2 : o2 = co (J c (hi k))) (e3 : o3 = co (J c (hi k))) (q q' : PosShare TreeShare) :
    iprop(own c (oVj (J c (hi k))).view fullShare (glue (x1 m c)) ∗ own c (bVj (J c (hi k))).view q' (fb m c)
        ∗ ((c : Thread nD τ).loc cc0_scratch3 ↦{q} ab m (devY c)))
      ⊢ run c (accHiP (F := F) o2 h2 o3 h3 p3) fun _ =>
        iprop(own c (oVj (J c (hi k))).view fullShare (res m c) ∗ own c (bVj (J c (hi k))).view q' (fb m c)
          ∗ ((c : Thread nD τ).loc cc0_scratch3 ↦{q} ab m (devY c))) := by
  subst e2; subst e3
  unfold accHiP
  iintro ⟨Ho, Hb, Ha⟩
  iapply (step_load (M := oV) (r := rO (co (J c (hi k))) h3) (S := (oVj (J c (hi k))).view.set) (Finset.Subset.refl _)) $$ Ho
  iintro Ho
  iapply (step_load (M := aR) (r := rAw) (S := Finset.univ) (Finset.subset_univ _)) $$ Ha
  iintro Ha
  rw [show (aR.access rAw).read (Elt F) (ab m (devY c)) = ab m (devY c) from
    Memref.read_access_unit_zero (Elt F) cc0_scratch3 (by decide) _ _]
  iapply (step_load (M := bV) (r := rB (co (J c (hi k))) h2) (S := (bVj (J c (hi k))).view.set) (Finset.Subset.refl _)) $$ Hb
  iintro Hb
  iapply (step_load (M := oV) (r := rO (co (J c (hi k))) h3) (S := (oVj (J c (hi k))).view.set) (Finset.Subset.refl _)) $$ Ho
  iintro Ho
  iapply (last_store (M := oV) (r := rO (co (J c (hi k))) h3) (res m c)
    ((read_glue (x2 m c) (J c (hi k))).trans ((x2_hi m c k).trans
      (congrArg (fun v => k0_pay15 v _ _) (read_glue (x1 m c) (J c (hi k))).symm)))) $$ Ho
  iintro Ho
  isplitl [Ho]; · iexact Ho
  isplitl [Hb] <;> iassumption

theorem out_run (g : Fin 8) (o : Fin 2 → Nat) (h : InO o) (w : WO o h) (ho : o = co (J c g)) :
    iprop(recs m K ∗ own c (oVj (J c g)).view fullShare (res m c) ∗ some' c (oHj (J c g)).view ∗ tok c (.dma (sCp g)) 0 false)
      ⊢ run c (outP (F := F) g o h w) fun _ => crd c (.dma (sCp g)) nA := by
  subst ho
  iintro ⟨#HG, Hs, Hd, Ht⟩
  iapply (run_copy m K c (src := oVj (J c g)) (dst := oHj (J c g)) (kind_cp g) 0 Nat.one_pos (credit_oH _ _) fullShare (res m c) (fun fd =>
    sep_mono_left (Entails.of_eq (landed c (oHj (J c g)).view fullShare fd (res m c) _ rfl))))
  isplitr; · iexact HG
  isplitl [Hs]; · iexact Hs
  isplitl [Hd]; · iexact Hd
  isplitl [Ht]; · iexact Ht
  iapply (recs_reached m K c (.dma (sCp g))); iexact HG

/-! ### The relay -/

theorem ready_run (l : List Debt) :
    iprop(recs m K ∗ relayed c ∗ tok (devX c) (.reg sReady) 0 false ∗ due c (.ready :: l))
      ⊢ run c (readyP (F := F) (devX c)) fun _ => due c l := by
  iintro ⟨#HG, Hp, Ht, Hd⟩
  iapply (run_signal m K c (y := devX c) (sem := sReady) kind_ready rfl rfl false (Finset.mem_singleton_self _) .ready l rfl)
  isplitr; · iexact HG
  isplitl [Hp]
  · iapply (Entails.of_eq (show relayed (F := F) c = pay m (devX c) 0 false .ready from (congrArg relayed (devX_devX c)).symm))
    iexact Hp
  isplitl [Ht] <;> iassumption

theorem readyWait_run (l : List Debt) (hl : ∀ d ∈ l, 2 < debtLev d) :
    iprop(recs m K ∗ crd c (.reg sReady) 1 ∗ pos c (.reg sReady) 0 ∗ due c l)
      ⊢ run c (readyWaitP (F := F)) fun _ => iprop(relayed (devX c) ∗ nil c (.reg sReady) () ∗ due c l) := by
  have h := run_semWait m K c (sem := sReady) 1#32 1 rfl rfl (expect_one m c (.reg sReady) 0 Nat.one_pos rfl) l hl
  rw [rest_one m c (.reg sReady) 0 Nat.one_pos rfl] at h
  exact h

theorem fSend_run (k : Fin 4) (o : Fin 2 → Nat) (h : InB o) (w : WB o h) (ho : o = co (J c (lo k))) (l : List Debt) :
    iprop(recs m K ∗ own c (bRc k).view fullShare (br m c) ∗ some' (devX c) (bVj (J c (lo k))).view
        ∗ tok c (.dma (sFs k)) 0 false ∗ tok (devX c) (.dma (sFr k)) 0 false ∗ due c (.frv k :: l))
      ⊢ run c (fSendP (F := F) (devX c) k o h w) fun _ =>
        iprop(own c (bRc k).view fullShare.right (br m c) ∗ crd c (.dma (sFs k)) nB ∗ due c l) := by
  subst ho
  iintro ⟨#HG, Hs, Hd, Hts, Htr, Ho⟩
  ihave Hs := (halves c (bRc k).view (br m c)).1 $$ Hs
  icases Hs with ⟨HL, HR⟩
  iapply (last (run_send m K c (y := devX c) (sS := sFs k) (sem := sFr k) (src := bRc k) (dst := bVj (J c (lo k))) (kind_fsd k) (kind_frv k) rfl rfl (credit_bV _ _) rfl
      fullShare.left (br m c) (.frv k) l rfl .rfl (fun fd =>
        Entails.of_eq ((landed (devX c) (bVj (J c (lo k))).view fullShare fd (fb m (devX c)) _ (fb_devX m c k)).trans
          (congrArg (fun j => own (devX c) (bVj j).view fullShare (fb m (devX c))) (J_devX_hi c k).symm))))) $$ [HL Hd Hts Htr Ho]
  · isplitr; · iexact HG
    isplitl [HL]; · iexact HL
    isplitl [Hd]; · iexact Hd
    isplitl [Hts]; · iexact Hts
    isplitl [Htr]; · iexact Htr
    iexact Ho
  iintro ⟨Hc, Ho⟩
  isplitl [HR]; · iexact HR
  isplitl [Hc]; · iexact Hc
  iexact Ho

/-! ### What is waited for -/

/-- A chunk of the column neighbour's `A` has arrived. -/
theorem aRecv_run (k : Fin 4) (l : List Debt) (hl : ∀ d ∈ l, levK (.arv k) < debtLev d) :
    iprop(recs m K ∗ crd c (.dma (sAr k)) nA ∗ pos c (.dma (sAr k)) 0 ∗ due c l)
      ⊢ run c (aRecvP (F := F) k) fun _ => iprop(own c (aRc k).view fullShare (ab m (devY c)) ∗ nil c (.dma (sAr k)) () ∗ due c l) :=
  run_wait1 m K c (src := aVc k) (dst := aRc k) (kind_arv k) rfl rfl (credit_aR k) l hl

/-- A chunk of the column neighbour's `B` has arrived. -/
theorem bRecv_run (k : Fin 4) (o : Fin 2 → Nat) (h : InB o) (w : WB o h) (l : List Debt) (hl : ∀ d ∈ l, levK (.brv k) < debtLev d) :
    iprop(recs m K ∗ crd c (.dma (sBr k)) nB ∗ pos c (.dma (sBr k)) 0 ∗ due c l)
      ⊢ run c (bRecvP (F := F) k o h w) fun _ => iprop(own c (bRc k).view fullShare (br m c) ∗ nil c (.dma (sBr k)) () ∗ due c l) :=
  run_wait1 m K c (src := bVc o h) (dst := bRc k) (kind_brv k) rfl rfl (credit_bR k) l hl

/-- A relayed chunk of `B` has arrived. -/
theorem fRecv_run (k : Fin 4) (o : Fin 2 → Nat) (h : InB o) (w : WB o h) (l : List Debt) (hl : ∀ d ∈ l, levK (.frv k) < debtLev d) :
    iprop(recs m K ∗ crd c (.dma (sFr k)) nB ∗ pos c (.dma (sFr k)) 0 ∗ due c l)
      ⊢ run c (fRecvP (F := F) k o h w) fun _ => iprop(own c (bVj (J c (hi k))).view fullShare (fb m c) ∗ nil c (.dma (sFr k)) () ∗ due c l) :=
  run_wait1 m K c (src := bVc o h) (dst := bVc o h) (kind_frv k) rfl rfl (credit_bV o h) l hl

/-- A sent chunk of `A` has left. -/
theorem aDone_run (k : Fin 4) (l : List Debt) (hl : ∀ d ∈ l, levK (.asd k) < debtLev d) :
    iprop(recs m K ∗ crd c (.dma (sAs k)) nA ∗ pos c (.dma (sAs k)) 0 ∗ due c l)
      ⊢ run c (aDoneP (F := F) k) fun _ => iprop(own c (aVc k).view fullShare.left (ab m c) ∗ nil c (.dma (sAs k)) () ∗ due c l) :=
  run_wait1 m K c (src := aRc k) (dst := aVc k) (kind_asd k) rfl rfl (credit_aV k) l hl

/-- A sent chunk of `B` has left. -/
theorem bDone_run (k : Fin 4) (o : Fin 2 → Nat) (h : InB o) (w : WB o h) (l : List Debt) (hl : ∀ d ∈ l, levK (.bsd k) < debtLev d) :
    iprop(recs m K ∗ crd c (.dma (sBs k)) nB ∗ pos c (.dma (sBs k)) 0 ∗ due c l)
      ⊢ run c (bDoneP (F := F) k o h w) fun _ => iprop(own c (bVj (J c (lo k))).view fullShare.left (cB m c) ∗ nil c (.dma (sBs k)) () ∗ due c l) :=
  run_wait1 m K c (src := bRc k) (dst := bVc o h) (kind_bsd k) rfl rfl (credit_bV o h) l hl

/-- A relayed chunk of `B` has left. -/
theorem fDone_run (k : Fin 4) (o : Fin 2 → Nat) (h : InB o) (w : WB o h) (l : List Debt) (hl : ∀ d ∈ l, levK (.fsd k) < debtLev d) :
    iprop(recs m K ∗ crd c (.dma (sFs k)) nB ∗ pos c (.dma (sFs k)) 0 ∗ due c l)
      ⊢ run c (fDoneP (F := F) k o h w) fun _ => iprop(own c (bRc k).view fullShare.left (br m c) ∗ nil c (.dma (sFs k)) () ∗ due c l) :=
  run_wait1 m K c (src := bVc o h) (dst := bRc k) (kind_fsd k) rfl rfl (credit_bR k) l hl

/-- A chunk of the result has arrived in HBM. -/
theorem outDone_run (g : Fin 8) (o : Fin 2 → Nat) (h : InO o) (w : WO o h) (l : List Debt) (hl : ∀ d ∈ l, levK (.cp g) < debtLev d) :
    iprop(recs m K ∗ crd c (.dma (sCp g)) nA ∗ pos c (.dma (sCp g)) 0 ∗ due c l)
      ⊢ run c (outDoneP (F := F) g o h w) fun _ => iprop((own c (oHj (J c g)).view fullShare (res m c) ∗ own c (oVj (J c g)).view fullShare (res m c)) ∗ nil c (.dma (sCp g)) () ∗ due c l) :=
  run_wait1 m K c (src := oVc o h) (dst := oHc o h) (kind_cp g) rfl rfl (credit_oH o h) l hl

end Cert.KernelIdeal.Ag

end
-- ==== Proof.Loops.lean ====
/-
The loops of the kernel: each is its pass's statement (`Steps`) put through `run_seq4` or `run_seq8`, with what the
passes take and leave gathered over their numbers.
-/
module

public import proofs.«01_k».proof.Proof.Steps

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Something for each of four passes. -/
abbrev B4 (Φ : Fin 4 → sProp 𝕄) : sProp 𝕄 := bigSep Finset.univ Φ
/-- Something for each of eight passes. -/
abbrev B8 (Φ : Fin 8 → sProp 𝕄) : sProp 𝕄 := bigSep Finset.univ Φ

/-- Eight passes are the first four and the last four. -/
theorem split8 (Φ : Fin 8 → sProp 𝕄) : B8 Φ = iprop(B4 (fun k => Φ (lo k)) ∗ B4 (fun k => Φ (hi k))) := by
  show bigSep Finset.univ Φ = _
  rw [bigSep_univ_equiv (finSumFinEquiv (m := 4) (n := 4)) Φ, bigSep_univ_sum]
  rfl

/-- The payments of the passes from `i` on. -/
def four (f : Fin 4 → Debt) (i : ℕ) : List Debt := [f 0, f 1, f 2, f 3].drop i
theorem four_cons (f : Fin 4 → Debt) (k : Fin 4) (l : List Debt) : four f k.val ++ l = f k :: (four f (k.val + 1) ++ l) := by
  fin_cases k <;> rfl
theorem mem_four (f : Fin 4 → Debt) (i : ℕ) (l : List Debt) (d : Debt) (h : d ∈ four f i ++ l) : (∃ k, d = f k) ∨ d ∈ l := by
  rcases List.mem_append.mp h with h | h
  · have h := List.mem_of_mem_drop h
    simp only [List.mem_cons, List.not_mem_nil, or_false] at h
    rcases h with h | h | h | h <;> exact .inl ⟨_, h⟩
  · exact .inr h

/-- A wait's statement in the form of a pass that carries what is owed. -/
theorem regroup4 {c : Dev nD} {p : P F} {G A B R X Y : sProp 𝕄} (h : iprop(G ∗ A ∗ B ∗ R) ⊢ run c p fun _ => iprop(X ∗ Y ∗ R)) :
    iprop(G ∗ (A ∗ B) ∗ R) ⊢ run c p fun _ => iprop((X ∗ Y) ∗ R) := by
  iintro ⟨HG, ⟨HA, HB⟩, HR⟩
  iapply (last h) $$ [HG HA HB HR]
  · isplitl [HG]; · iexact HG
    isplitl [HA]; · iexact HA
    isplitl [HB] <;> iassumption
  iintro ⟨HX, HY, HR⟩
  isplitr [HR]
  · isplitl [HX] <;> iassumption
  · iexact HR

variable (m : (ℓ : Loc nD τ sig) → Buf (Elt F) ℓ) (K : Dev nD × SemLoc sig → ℕ) (c : Dev nD)

theorem aLoop (l : List Debt) :
    iprop(recs m K ∗ (B4 (fun k => own c (aHc k).view fullShare (cA m c)) ∗ B4 (fun k => some' c (aVc k).view) ∗ B4 (fun k => some' (devY c) (aRc k).view)
          ∗ B4 (fun k => tok c (.dma sAin) k.val false) ∗ B4 (fun k => tok c (.dma (sAs k)) 0 false) ∗ B4 (fun k => tok (devY c) (.dma (sAr k)) 0 false))
        ∗ due c (four .arv 0 ++ l) ∗ pos c (.dma sAin) 0 ∗ reached ER ((c : Thread nD τ), .dma sAin) 0
        ∗ some' c (sV : Memref sig .tc .vmem S3072x384 .f32).view)
      ⊢ run c (seq4 fun k => aP (F := F) (devY c) k) fun _ =>
        iprop((B4 (fun k => own c (aHc k).view fullShare (cA m c)) ∗ B4 (fun k => own c (aVc k).view fullShare.right (ab m c))
            ∗ B4 (fun k => crd c (.dma (sAs k)) nA))
          ∗ due c (four .arv 4 ++ l) ∗ pos c (.dma sAin) 4 ∗ reached ER ((c : Thread nD τ), .dma sAin) 4
          ∗ some' c (sV : Memref sig .tc .vmem S3072x384 .f32).view) := by
  have h := run_seq4 c (fun k => aP (F := F) (devY c) k) (recs m K) _ _
    (fun i => iprop(due c (four .arv i ++ l) ∗ pos c (.dma sAin) i ∗ reached ER ((c : Thread nD τ), .dma sAin) i
      ∗ some' c (sV : Memref sig .tc .vmem S3072x384 .f32).view))
    (fun k => by rw [four_cons]; exact aP_run m K c k _)
  simp only [bigSep_sep'] at h
  exact h

theorem bStartLoop (R : sProp 𝕄) :
    iprop(recs m K ∗ (B8 (fun g => own c (bHj (J c g)).view fullShare (cB m c)) ∗ B8 (fun g => some' c (bVj (J c g)).view)
          ∗ B8 (fun g => tok c (.dma (sBin g)) 0 false)) ∗ R)
      ⊢ run c (seq8 fun g => bStartP (F := F) g (k0_off1 c (wd g)) (k0_off1_inb c g) (k0_off1_wordsbf16 c g)) fun _ =>
        iprop(B8 (fun g => crd c (.dma (sBin g)) nB) ∗ R) := by
  have h := run_seq8 c (fun g => bStartP (F := F) g (k0_off1 c (wd g)) (k0_off1_inb c g) (k0_off1_wordsbf16 c g)) (recs m K)
    (fun g => iprop(own c (bHj (J c g)).view fullShare (cB m c) ∗ some' c (bVj (J c g)).view ∗ tok c (.dma (sBin g)) 0 false))
    (fun g => crd c (.dma (sBin g)) nB) (fun _ => R)
    (fun g => by
      iintro ⟨HG, HT, HR⟩
      iapply (run_frame (R := R) (bStart_run m K c g _ _ _ (off1 c g)))
      isplitl [HG HT]
      · isplitl [HG] <;> iassumption
      · iexact HR)
  simp only [bigSep_sep'] at h
  exact h

theorem bLoLoop (l : List Debt) :
    iprop(recs m K ∗ (B4 (fun k => crd c (.dma (sBin (lo k))) nB) ∗ B4 (fun k => pos c (.dma (sBin (lo k))) 0) ∗ B4 (fun k => some' (devY c) (bRc k).view)
          ∗ B4 (fun k => tok c (.dma (sBs k)) 0 false) ∗ B4 (fun k => tok (devY c) (.dma (sBr k)) 0 false)) ∗ due c (four .brv 0 ++ l))
      ⊢ run c (seq4 fun k => (do
          bWaitP (F := F) (lo k) (k0_off1 c (wd (lo k))) (k0_off1_inb c (lo k)) (k0_off1_wordsbf16 c (lo k))
          bSendP (devY c) k (k0_off1 c (wd (lo k))) (k0_off1_inb c (lo k)) (k0_off1_wordsbf16 c (lo k)))) fun _ =>
        iprop((B4 (fun k => own c (bVj (J c (lo k))).view fullShare.right (cB m c)) ∗ B4 (fun k => own c (bHj (J c (lo k))).view fullShare (cB m c))
            ∗ B4 (fun k => nil c (.dma (sBin (lo k))) ()) ∗ B4 (fun k => crd c (.dma (sBs k)) nB)) ∗ due c (four .brv 4 ++ l)) := by
  have h := run_seq4 c (fun k => (do
          bWaitP (F := F) (lo k) (k0_off1 c (wd (lo k))) (k0_off1_inb c (lo k)) (k0_off1_wordsbf16 c (lo k))
          bSendP (devY c) k (k0_off1 c (wd (lo k))) (k0_off1_inb c (lo k)) (k0_off1_wordsbf16 c (lo k)))) (recs m K)
    (fun k => iprop(crd c (.dma (sBin (lo k))) nB ∗ pos c (.dma (sBin (lo k))) 0 ∗ some' (devY c) (bRc k).view
      ∗ tok c (.dma (sBs k)) 0 false ∗ tok (devY c) (.dma (sBr k)) 0 false))
    (fun k => iprop(own c (bVj (J c (lo k))).view fullShare.right (cB m c) ∗ own c (bHj (J c (lo k))).view fullShare (cB m c)
      ∗ nil c (.dma (sBin (lo k))) () ∗ crd c (.dma (sBs k)) nB))
    (fun i => due c (four .brv i ++ l))
    (fun k => by
      rw [four_cons]
      iintro ⟨#HG, ⟨Hc, Hp, Hd, Hts, Htr⟩, Ho⟩
      iapply (step (bWait_run m K c (lo k) _ _ _ _ (lev_pos _))) $$ [Hc Hp Ho]
      · isplitr; · iexact HG
        isplitl [Hc]; · iexact Hc
        isplitl [Hp] <;> iassumption
      iintro ⟨⟨Hv, Hh⟩, Hz, Ho⟩
      iapply (last (bSend_run m K c k _ _ _ (off1 c (lo k)) _)) $$ [Hv Hd Hts Htr Ho]
      · isplitr; · iexact HG
        isplitl [Hv]; · iexact Hv
        isplitl [Hd]; · iexact Hd
        isplitl [Hts]; · iexact Hts
        isplitl [Htr] <;> iassumption
      iintro ⟨Hv, Hc, Ho⟩
      isplitr [Ho]
      · isplitl [Hv]; · iexact Hv
        isplitl [Hh]; · iexact Hh
        isplitl [Hz] <;> iassumption
      · iexact Ho)
  simp only [bigSep_sep'] at h
  exact h

theorem bHiLoop (l : List Debt) :
    iprop(recs m K ∗ (B4 (fun k => crd c (.dma (sBin (hi k))) nB) ∗ B4 (fun k => pos c (.dma (sBin (hi k))) 0)) ∗ due c l)
      ⊢ run c (seq4 fun k => bWaitP (F := F) (hi k) (k0_off1 c (wd (hi k))) (k0_off1_inb c (hi k)) (k0_off1_wordsbf16 c (hi k))) fun _ =>
        iprop(((B4 (fun k => own c (bVj (J c (hi k))).view fullShare (cB m c)) ∗ B4 (fun k => own c (bHj (J c (hi k))).view fullShare (cB m c)))
            ∗ B4 (fun k => nil c (.dma (sBin (hi k))) ())) ∗ due c l) := by
  have h := run_seq4 c (fun k => bWaitP (F := F) (hi k) (k0_off1 c (wd (hi k))) (k0_off1_inb c (hi k)) (k0_off1_wordsbf16 c (hi k))) (recs m K)
    _ (fun k => iprop((own c (bVj (J c (hi k))).view fullShare (cB m c) ∗ own c (bHj (J c (hi k))).view fullShare (cB m c)) ∗ nil c (.dma (sBin (hi k))) ()))
    (fun _ => due c l)
    (fun k => by
      have h := bWait_run m K c (hi k) _ (k0_off1_inb c (hi k)) (k0_off1_wordsbf16 c (hi k)) l (lev_pos _)
      exact regroup4 h)
  simp only [bigSep_sep'] at h
  exact h

/-- Half of a chunk of `B` that is being sent, all of one that is not. -/
def shareOf (g : Fin 8) : PosShare TreeShare := if g.val < 4 then fullShare.right else fullShare
theorem shareOf_lo (k : Fin 4) : shareOf (lo k) = fullShare.right := by fin_cases k <;> rfl
theorem shareOf_hi (k : Fin 4) : shareOf (hi k) = fullShare := by fin_cases k <;> rfl

theorem dotLoop (q : PosShare TreeShare) :
    iprop(emp ∗ (B8 (fun g => own c (bVj (J c g)).view (shareOf g) (cB m c)) ∗ B8 (fun g => some' c (oVj (J c g)).view))
        ∗ ((c : Thread nD τ).loc cc0_scratch0 ↦{q} ab m c))
      ⊢ run c (seq8 fun g => dotP (F := F) (k0_off2 c (wd g)) (k0_off2_inb c g) (k0_off3 c (wd g)) (k0_off3_inb c g) (k0_off3_packedbf16 c g)) fun _ =>
        iprop((B8 (fun g => own c (bVj (J c g)).view (shareOf g) (cB m c)) ∗ B8 (fun g => own c (oVj (J c g)).view fullShare (glue (x1 m c))))
          ∗ ((c : Thread nD τ).loc cc0_scratch0 ↦{q} ab m c)) := by
  have h := run_seq8 c (fun g => dotP (F := F) (k0_off2 c (wd g)) (k0_off2_inb c g) (k0_off3 c (wd g)) (k0_off3_inb c g) (k0_off3_packedbf16 c g)) iprop(emp)
    (fun g => iprop(own c (bVj (J c g)).view (shareOf g) (cB m c) ∗ some' c (oVj (J c g)).view))
    (fun g => iprop(own c (bVj (J c g)).view (shareOf g) (cB m c) ∗ own c (oVj (J c g)).view fullShare (glue (x1 m c))))
    (fun _ => iprop((c : Thread nD τ).loc cc0_scratch0 ↦{q} ab m c))
    (fun g => by
      iintro ⟨-, ⟨Hb, Ho⟩, Ha⟩
      iapply (dot_run m c (J c g) _ _ _ _ _ (off2 c g) (off3 c g) q (shareOf g))
      isplitl [Hb]; · iexact Hb
      isplitl [Ho] <;> iassumption)
  simp only [bigSep_sep'] at h
  exact h

theorem aRecvLoop (l : List Debt) (hl : ∀ d ∈ l, 2 < debtLev d) :
    iprop(recs m K ∗ (B4 (fun k => crd c (.dma (sAr k)) nA) ∗ B4 (fun k => pos c (.dma (sAr k)) 0)) ∗ due c l)
      ⊢ run c (seq4 fun k => aRecvP (F := F) k) fun _ =>
        iprop((B4 (fun k => own c (aRc k).view fullShare (ab m (devY c))) ∗ B4 (fun k => nil c (.dma (sAr k)) ())) ∗ due c l) := by
  have h := run_seq4 c (fun k => aRecvP (F := F) k) (recs m K) _
    (fun k => iprop(own c (aRc k).view fullShare (ab m (devY c)) ∗ nil c (.dma (sAr k)) ())) (fun _ => due c l)
    (fun k => regroup4 (aRecv_run m K c k l hl))
  simp only [bigSep_sep'] at h
  exact h

theorem aDoneLoop (l : List Debt) :
    iprop(recs m K ∗ (B4 (fun k => crd c (.dma (sAs k)) nA) ∗ B4 (fun k => pos c (.dma (sAs k)) 0)) ∗ due c l)
      ⊢ run c (seq4 fun k => aDoneP (F := F) k) fun _ =>
        iprop((B4 (fun k => own c (aVc k).view fullShare.left (ab m c)) ∗ B4 (fun k => nil c (.dma (sAs k)) ())) ∗ due c l) := by
  have h := run_seq4 c (fun k => aDoneP (F := F) k) (recs m K) _
    (fun k => iprop(own c (aVc k).view fullShare.left (ab m c) ∗ nil c (.dma (sAs k)) ())) (fun _ => due c l)
    (fun k => regroup4 (aDone_run m K c k l (lev_pos _)))
  simp only [bigSep_sep'] at h
  exact h

theorem outDoneLoop (l : List Debt) :
    iprop(recs m K ∗ (B8 (fun g => crd c (.dma (sCp g)) nA) ∗ B8 (fun g => pos c (.dma (sCp g)) 0)) ∗ due c l)
      ⊢ run c (seq8 fun g => outDoneP (F := F) g (k0_off4 c (wd g)) (k0_off4_inb c g) (k0_off4_wordsbf16 c g)) fun _ =>
        iprop(((B8 (fun g => own c (oHj (J c g)).view fullShare (res m c)) ∗ B8 (fun g => own c (oVj (J c g)).view fullShare (res m c)))
          ∗ B8 (fun g => nil c (.dma (sCp g)) ())) ∗ due c l) := by
  have h := run_seq8 c (fun g => outDoneP (F := F) g (k0_off4 c (wd g)) (k0_off4_inb c g) (k0_off4_wordsbf16 c g)) (recs m K) _
    (fun g => iprop((own c (oHj (J c g)).view fullShare (res m c) ∗ own c (oVj (J c g)).view fullShare (res m c)) ∗ nil c (.dma (sCp g)) ())) (fun _ => due c l)
    (fun g => regroup4 (outDone_run m K c g _ _ _ l (lev_pos _)))
  simp only [bigSep_sep'] at h
  exact h

theorem midLoop (l : List Debt) (hl : ∀ d ∈ l, 2 < debtLev d) (q : PosShare TreeShare) :
    iprop(recs m K ∗ (B4 (fun k => crd c (.dma (sBr k)) nB) ∗ B4 (fun k => pos c (.dma (sBr k)) 0) ∗ B4 (fun k => some' (devX c) (bVj (J c (lo k))).view)
          ∗ B4 (fun k => tok c (.dma (sFs k)) 0 false) ∗ B4 (fun k => tok (devX c) (.dma (sFr k)) 0 false)
          ∗ B4 (fun k => own c (oVj (J c (lo k))).view fullShare (glue (x1 m c))) ∗ B4 (fun k => some' c (oHj (J c (lo k))).view)
          ∗ B4 (fun k => tok c (.dma (sCp (lo k))) 0 false))
        ∗ due c (four .frv 0 ++ l) ∗ ((c : Thread nD τ).loc cc0_scratch3 ↦{q} ab m (devY c)))
      ⊢ run c (seq4 fun k => (do
          bRecvP (F := F) k (k0_off1 c (wd (lo k))) (k0_off1_inb c (lo k)) (k0_off1_wordsbf16 c (lo k))
          fSendP (devX c) k (k0_off1 c (wd (lo k))) (k0_off1_inb c (lo k)) (k0_off1_wordsbf16 c (lo k))
          accLoP k (k0_off3 c (wd (lo k))) (k0_off3_inb c (lo k)) (k0_off3_packedbf16 c (lo k))
          outP (lo k) (k0_off4 c (wd (lo k))) (k0_off4_inb c (lo k)) (k0_off4_wordsbf16 c (lo k)))) fun _ =>
        iprop((B4 (fun k => nil c (.dma (sBr k)) ()) ∗ B4 (fun k => own c (bRc k).view fullShare.right (br m c))
            ∗ B4 (fun k => crd c (.dma (sFs k)) nB) ∗ B4 (fun k => crd c (.dma (sCp (lo k))) nA))
          ∗ due c (four .frv 4 ++ l) ∗ ((c : Thread nD τ).loc cc0_scratch3 ↦{q} ab m (devY c))) := by
  have h := run_seq4 c (fun k => (do
          bRecvP (F := F) k (k0_off1 c (wd (lo k))) (k0_off1_inb c (lo k)) (k0_off1_wordsbf16 c (lo k))
          fSendP (devX c) k (k0_off1 c (wd (lo k))) (k0_off1_inb c (lo k)) (k0_off1_wordsbf16 c (lo k))
          accLoP k (k0_off3 c (wd (lo k))) (k0_off3_inb c (lo k)) (k0_off3_packedbf16 c (lo k))
          outP (lo k) (k0_off4 c (wd (lo k))) (k0_off4_inb c (lo k)) (k0_off4_wordsbf16 c (lo k)))) (recs m K)
    (fun k => iprop(crd c (.dma (sBr k)) nB ∗ pos c (.dma (sBr k)) 0 ∗ some' (devX c) (bVj (J c (lo k))).view
      ∗ tok c (.dma (sFs k)) 0 false ∗ tok (devX c) (.dma (sFr k)) 0 false
      ∗ own c (oVj (J c (lo k))).view fullShare (glue (x1 m c)) ∗ some' c (oHj (J c (lo k))).view ∗ tok c (.dma (sCp (lo k))) 0 false))
    (fun k => iprop(nil c (.dma (sBr k)) () ∗ own c (bRc k).view fullShare.right (br m c) ∗ crd c (.dma (sFs k)) nB ∗ crd c (.dma (sCp (lo k))) nA))
    (fun i => iprop(due c (four .frv i ++ l) ∗ ((c : Thread nD τ).loc cc0_scratch3 ↦{q} ab m (devY c))))
    (fun k => by
      iintro ⟨#HG, ⟨Hc, Hp, Hd, Hts, Htr, Ho, Hh, Htc⟩, Hdue, Ha⟩
      iapply (step (bRecv_run m K c k _ _ _ _ (fun d hd => by
        show 2 < debtLev d
        rcases mem_four .frv _ _ _ hd with ⟨k, rfl⟩ | hd
        · exact (by decide : 2 < 3)
        · exact hl d hd))) $$ [Hc Hp Hdue]
      · isplitr; · iexact HG
        isplitl [Hc]; · iexact Hc
        isplitl [Hp] <;> iassumption
      iintro ⟨Hb, Hz, Hdue⟩
      ihave Hdue := Entails.of_eq (congrArg (due c) (four_cons .frv k l)) $$ Hdue
      iapply (step (fSend_run m K c k _ _ _ (off1 c (lo k)) _)) $$ [Hb Hd Hts Htr Hdue]
      · isplitr; · iexact HG
        isplitl [Hb]; · iexact Hb
        isplitl [Hd]; · iexact Hd
        isplitl [Hts]; · iexact Hts
        isplitl [Htr] <;> iassumption
      iintro ⟨Hb, Hc, Hdue⟩
      iapply (step (accLo_run m c k _ _ _ (off3 c (lo k)) q fullShare.right)) $$ [Ho Hb Ha]
      · isplitl [Ho]; · iexact Ho
        isplitl [Hb] <;> iassumption
      iintro ⟨Ho, Hb, Ha⟩
      iapply (last (out_run m K c (lo k) _ _ _ (off4 c (lo k)))) $$ [Ho Hh Htc]
      · isplitr; · iexact HG
        isplitl [Ho]; · iexact Ho
        isplitl [Hh] <;> iassumption
      iintro Hcc
      isplitr [Hdue Ha]
      · isplitl [Hz]; · iexact Hz
        isplitl [Hb]; · iexact Hb
        isplitl [Hc] <;> iassumption
      · isplitl [Hdue] <;> iassumption)
  simp only [bigSep_sep'] at h
  exact h

theorem hiLoop (q : PosShare TreeShare) :
    iprop(recs m K ∗ (B4 (fun k => crd c (.dma (sFr k)) nB) ∗ B4 (fun k => pos c (.dma (sFr k)) 0)
          ∗ B4 (fun k => own c (oVj (J c (hi k))).view fullShare (glue (x1 m c))) ∗ B4 (fun k => some' c (oHj (J c (hi k))).view)
          ∗ B4 (fun k => tok c (.dma (sCp (hi k))) 0 false))
        ∗ due c [] ∗ ((c : Thread nD τ).loc cc0_scratch3 ↦{q} ab m (devY c)))
      ⊢ run c (seq4 fun k => (do
          fRecvP (F := F) k (k0_off1 c (wd (hi k))) (k0_off1_inb c (hi k)) (k0_off1_wordsbf16 c (hi k))
          accHiP (k0_off2 c (wd (hi k))) (k0_off2_inb c (hi k)) (k0_off3 c (wd (hi k))) (k0_off3_inb c (hi k)) (k0_off3_packedbf16 c (hi k))
          outP (hi k) (k0_off4 c (wd (hi k))) (k0_off4_inb c (hi k)) (k0_off4_wordsbf16 c (hi k)))) fun _ =>
        iprop((B4 (fun k => nil c (.dma (sFr k)) ()) ∗ B4 (fun k => own c (bVj (J c (hi k))).view fullShare (fb m c))
            ∗ B4 (fun k => crd c (.dma (sCp (hi k))) nA))
          ∗ due c [] ∗ ((c : Thread nD τ).loc cc0_scratch3 ↦{q} ab m (devY c))) := by
  have h := run_seq4 c (fun k => (do
          fRecvP (F := F) k (k0_off1 c (wd (hi k))) (k0_off1_inb c (hi k)) (k0_off1_wordsbf16 c (hi k))
          accHiP (k0_off2 c (wd (hi k))) (k0_off2_inb c (hi k)) (k0_off3 c (wd (hi k))) (k0_off3_inb c (hi k)) (k0_off3_packedbf16 c (hi k))
          outP (hi k) (k0_off4 c (wd (hi k))) (k0_off4_inb c (hi k)) (k0_off4_wordsbf16 c (hi k)))) (recs m K)
    (fun k => iprop(crd c (.dma (sFr k)) nB ∗ pos c (.dma (sFr k)) 0
      ∗ own c (oVj (J c (hi k))).view fullShare (glue (x1 m c)) ∗ some' c (oHj (J c (hi k))).view ∗ tok c (.dma (sCp (hi k))) 0 false))
    (fun k => iprop(nil c (.dma (sFr k)) () ∗ own c (bVj (J c (hi k))).view fullShare (fb m c) ∗ crd c (.dma (sCp (hi k))) nA))
    (fun _ => iprop(due c [] ∗ ((c : Thread nD τ).loc cc0_scratch3 ↦{q} ab m (devY c))))
    (fun k => by
      iintro ⟨#HG, ⟨Hc, Hp, Ho, Hh, Htc⟩, Hdue, Ha⟩
      iapply (step (fRecv_run m K c k _ _ _ _ (fun d hd => absurd hd List.not_mem_nil))) $$ [Hc Hp Hdue]
      · isplitr; · iexact HG
        isplitl [Hc]; · iexact Hc
        isplitl [Hp] <;> iassumption
      iintro ⟨Hb, Hz, Hdue⟩
      iapply (step (accHi_run m c k _ _ _ _ _ (off2 c (hi k)) (off3 c (hi k)) q fullShare)) $$ [Ho Hb Ha]
      · isplitl [Ho]; · iexact Ho
        isplitl [Hb] <;> iassumption
      iintro ⟨Ho, Hb, Ha⟩
      iapply (last (out_run m K c (hi k) _ _ _ (off4 c (hi k)))) $$ [Ho Hh Htc]
      · isplitr; · iexact HG
        isplitl [Ho]; · iexact Ho
        isplitl [Hh] <;> iassumption
      iintro Hcc
      isplitr [Hdue Ha]
      · isplitl [Hz]; · iexact Hz
        isplitl [Hb] <;> iassumption
      · isplitl [Hdue] <;> iassumption)
  simp only [bigSep_sep'] at h
  exact h

theorem bDoneLoop (l : List Debt) :
    iprop(recs m K ∗ ((B4 (fun k => crd c (.dma (sBs k)) nB) ∗ B4 (fun k => pos c (.dma (sBs k)) 0))
          ∗ B4 (fun k => crd c (.dma (sFs k)) nB) ∗ B4 (fun k => pos c (.dma (sFs k)) 0)) ∗ due c l)
      ⊢ run c (seq4 fun k => (do
          bDoneP (F := F) k (k0_off1 c (wd (lo k))) (k0_off1_inb c (lo k)) (k0_off1_wordsbf16 c (lo k))
          fDoneP k (k0_off1 c (wd (lo k))) (k0_off1_inb c (lo k)) (k0_off1_wordsbf16 c (lo k)))) fun _ =>
        iprop(((B4 (fun k => own c (bVj (J c (lo k))).view fullShare.left (cB m c)) ∗ B4 (fun k => nil c (.dma (sBs k)) ()))
          ∗ B4 (fun k => own c (bRc k).view fullShare.left (br m c)) ∗ B4 (fun k => nil c (.dma (sFs k)) ())) ∗ due c l) := by
  have h := run_seq4 c (fun k => (do
          bDoneP (F := F) k (k0_off1 c (wd (lo k))) (k0_off1_inb c (lo k)) (k0_off1_wordsbf16 c (lo k))
          fDoneP k (k0_off1 c (wd (lo k))) (k0_off1_inb c (lo k)) (k0_off1_wordsbf16 c (lo k)))) (recs m K)
    (fun k => iprop((crd c (.dma (sBs k)) nB ∗ pos c (.dma (sBs k)) 0) ∗ crd c (.dma (sFs k)) nB ∗ pos c (.dma (sFs k)) 0))
    (fun k => iprop((own c (bVj (J c (lo k))).view fullShare.left (cB m c) ∗ nil c (.dma (sBs k)) ())
      ∗ own c (bRc k).view fullShare.left (br m c) ∗ nil c (.dma (sFs k)) ()))
    (fun _ => due c l)
    (fun k => by
      iintro ⟨#HG, ⟨Hb, Hf⟩, Hdue⟩
      iapply (step (regroup4 (bDone_run m K c k _ _ _ l (lev_pos _)))) $$ [Hb Hdue]
      · isplitr; · iexact HG
        isplitl [Hb] <;> iassumption
      iintro ⟨Hb, Hdue⟩
      iapply (last (regroup4 (fDone_run m K c k _ _ _ l (lev_pos _)))) $$ [Hf Hdue]
      · isplitr; · iexact HG
        isplitl [Hf] <;> iassumption
      iintro ⟨Hf, Hdue⟩
      isplitr [Hdue]
      · isplitl [Hb] <;> iassumption
      · iexact Hdue)
  simp only [bigSep_sep'] at h
  exact h

end Cert.KernelIdeal.Ag

end
-- ==== Proof.Pieces.lean ====
/-
The buffers and semaphores of a device listed piece by piece: each buffer as its chunks in the order of the passes, the
semaphores by their use, and what a device holds before and after its run.
-/
module

public import proofs.«01_k».proof.Proof.Loops

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The semaphores, one by one -/

/-- What is said of each semaphore of a device, said use by use. -/
def allSems (Φ : SemLoc sig → sProp 𝕄) : sProp 𝕄 :=
  iprop(Φ (.dma sAin) ∗ B8 (fun g => Φ (.dma (sBin g))) ∗ B4 (fun k => Φ (.dma (sAs k))) ∗ B4 (fun k => Φ (.dma (sAr k)))
    ∗ B4 (fun k => Φ (.dma (sBs k))) ∗ B4 (fun k => Φ (.dma (sBr k))) ∗ B4 (fun k => Φ (.dma (sFs k))) ∗ B4 (fun k => Φ (.dma (sFr k)))
    ∗ B8 (fun g => Φ (.dma (sCp g))) ∗ Φ (.reg sReady) ∗ Φ (.reg sBar))

/-- The uses, as a sum. -/
abbrev Uses := Fin 1 ⊕ Fin 8 ⊕ Fin 4 ⊕ Fin 4 ⊕ Fin 4 ⊕ Fin 4 ⊕ Fin 4 ⊕ Fin 4 ⊕ Fin 8 ⊕ Fin 1 ⊕ Fin 1
/-- The semaphore of a use. -/
def semOf : Uses → SemLoc sig
  | .inl _ => .dma sAin
  | .inr (.inl g) => .dma (sBin g)
  | .inr (.inr (.inl k)) => .dma (sAs k)
  | .inr (.inr (.inr (.inl k))) => .dma (sAr k)
  | .inr (.inr (.inr (.inr (.inl k)))) => .dma (sBs k)
  | .inr (.inr (.inr (.inr (.inr (.inl k))))) => .dma (sBr k)
  | .inr (.inr (.inr (.inr (.inr (.inr (.inl k)))))) => .dma (sFs k)
  | .inr (.inr (.inr (.inr (.inr (.inr (.inr (.inl k))))))) => .dma (sFr k)
  | .inr (.inr (.inr (.inr (.inr (.inr (.inr (.inr (.inl g)))))))) => .dma (sCp g)
  | .inr (.inr (.inr (.inr (.inr (.inr (.inr (.inr (.inr (.inl _))))))))) => .reg sReady
  | .inr (.inr (.inr (.inr (.inr (.inr (.inr (.inr (.inr (.inr _))))))))) => .reg sBar
/-- The place of a use in the sum. -/
def useOf : Kind → Uses
  | .ain => .inl 0
  | .bin g => .inr (.inl g)
  | .asd k => .inr (.inr (.inl k))
  | .arv k => .inr (.inr (.inr (.inl k)))
  | .bsd k => .inr (.inr (.inr (.inr (.inl k))))
  | .brv k => .inr (.inr (.inr (.inr (.inr (.inl k)))))
  | .fsd k => .inr (.inr (.inr (.inr (.inr (.inr (.inl k))))))
  | .frv k => .inr (.inr (.inr (.inr (.inr (.inr (.inr (.inl k)))))))
  | .cp g => .inr (.inr (.inr (.inr (.inr (.inr (.inr (.inr (.inl g))))))))
  | .ready => .inr (.inr (.inr (.inr (.inr (.inr (.inr (.inr (.inr (.inl 0)))))))))
  | .bar => .inr (.inr (.inr (.inr (.inr (.inr (.inr (.inr (.inr (.inr 0)))))))))

/-- Every semaphore has exactly one use. -/
def uses : Uses ≃ SemLoc sig where
  toFun := semOf
  invFun s := useOf (kindOf s)
  left_inv u := by
    rcases u with u | u | u | u | u | u | u | u | u | u | u
    · rw [Subsingleton.elim u 0]; rfl
    · exact congrArg useOf (kind_bin u)
    · exact congrArg useOf (kind_asd u)
    · exact congrArg useOf (kind_arv u)
    · exact congrArg useOf (kind_bsd u)
    · exact congrArg useOf (kind_brv u)
    · exact congrArg useOf (kind_fsd u)
    · exact congrArg useOf (kind_frv u)
    · exact congrArg useOf (kind_cp u)
    · rw [Subsingleton.elim u 0]; rfl
    · rw [Subsingleton.elim u 0]; rfl
  right_inv s := by
    rcases s with i | i
    · revert i; decide
    · revert i; decide

theorem one (Φ : Fin 1 → sProp 𝕄) : bigSep Finset.univ Φ = Φ 0 := by
  rw [Finset.univ_unique, bigSep_singleton]; rfl

theorem sems_eq (Φ : SemLoc sig → sProp 𝕄) : bigSep Finset.univ Φ = allSems Φ := by
  rw [bigSep_univ_equiv uses Φ]
  simp only [bigSep_univ_sum, one]
  rfl

/-! ### The buffers, chunk by chunk -/

section
variable (c : Dev nD) (q : PosShare TreeShare)

theorem whole_eq (b : Ref sig .tc) (f : Buf (Elt F) ((c : Thread nD τ).loc b)) :
    (own c (Memref.whole b).view q f : sProp 𝕄) = ((c : Thread nD τ).loc b ↦{q} f) := by
  show ((c : Thread nD τ).loc b ↦[(View.whole b).set]{q} f : sProp 𝕄) = _
  rw [View.set_whole]

theorem aH_eq (f : Vec F S3072x1536 .f32) : ((c : Thread nD τ).loc main_arg0 ↦{q} f : sProp 𝕄) = B4 fun k => own c (aHc k).view q f :=
  cut c q main_arg0 rA rA_disj rA_cover f
theorem aV_eq (f : Vec F S3072x1536 .bf16) : ((c : Thread nD τ).loc cc0_scratch0 ↦{q} f : sProp 𝕄) = B4 fun k => own c (aVc k).view q f :=
  cut c q cc0_scratch0 rA rA_disj rA_cover f
theorem aR_eq (f : Vec F S3072x1536 .bf16) : ((c : Thread nD τ).loc cc0_scratch3 ↦{q} f : sProp 𝕄) = B4 fun k => own c (aRc k).view q f :=
  cut c q cc0_scratch3 rA rA_disj rA_cover f
theorem bR_eq (f : Vec F S1536x1536 .bf16) : ((c : Thread nD τ).loc cc0_scratch4 ↦{q} f : sProp 𝕄) = B4 fun k => own c (bRc k).view q f :=
  cut c q cc0_scratch4 rR rR_disj rR_cover f

/-- Chunks listed by their place, listed by the pass that handles them. -/
theorem by_pass (Φ : Fin 8 → sProp 𝕄) : bigSep Finset.univ Φ = B8 fun g => Φ (J c g) := bigSep_univ_equiv (chunks c) Φ

theorem bH_eq (f : Vec F S1536x3072 .bf16) : ((c : Thread nD τ).loc main_arg1 ↦{q} f : sProp 𝕄) = B8 fun g => own c (bHj (J c g)).view q f :=
  (cut c q main_arg1 (fun j => rB (co j) (inB j)) rB_disj rB_cover f).trans (by_pass c _)
theorem bV_eq (f : Vec F S1536x3072 .bf16) : ((c : Thread nD τ).loc cc0_scratch1 ↦{q} f : sProp 𝕄) = B8 fun g => own c (bVj (J c g)).view q f :=
  (cut c q cc0_scratch1 (fun j => rB (co j) (inB j)) rB_disj rB_cover f).trans (by_pass c _)
theorem oV_eq (f : Vec F S3072x3072 .bf16) : ((c : Thread nD τ).loc cc0_scratch2 ↦{q} f : sProp 𝕄) = B8 fun g => own c (oVj (J c g)).view q f :=
  (cut c q cc0_scratch2 (fun j => rO (co j) (inO j)) rO_disj rO_cover f).trans (by_pass c _)
theorem oH_eq (f : Vec F S3072x3072 .bf16) : ((c : Thread nD τ).loc main_v1 ↦{q} f : sProp 𝕄) = B8 fun g => own c (oHj (J c g)).view q f :=
  (cut c q main_v1 (fun j => rO (co j) (inO j)) rO_disj rO_cover f).trans (by_pass c _)

/-- The buffer of `B`, its chunks at any contents. -/
theorem bV_some (f₀ : Vec F S1536x3072 .bf16) :
    B8 (fun g => some' c (bVj (J c g)).view) ⊢ (iprop(∃ f : Buf (Elt F) ((c : Thread nD τ).loc cc0_scratch1), (c : Thread nD τ).loc cc0_scratch1 ↦{fullShare} f) : sProp 𝕄) := by
  refine BIBase.Entails.trans (Entails.of_eq (by_pass (F := F) c fun j => some' c (bVj j).view).symm) ?_
  exact cut_some c fullShare cc0_scratch1 (fun j => rB (co j) (inB j)) rB_disj rB_cover f₀

/-- A row neighbour's columns of `B` that this device's relay overwrites. -/
theorem relayed_devX : relayed (F := F) (devX c) = B4 fun k => some' (devX c) (bVj (J c (lo k))).view :=
  bigSep_congr fun k _ => by rw [J_devX_hi]

end

section
variable (c : Dev nD)

/-- Pieces at known contents are pieces at some contents. -/
theorem forget4 {sp : Space} {s : Shape} {e : EltTy} (v : Fin 4 → View sig .tc sp s e) (f : (k : Fin 4) → Buf (Elt F) ((v k).loc (c : Thread nD τ))) :
    B4 (fun k => own c (v k) fullShare (f k)) ⊢ (B4 fun k => some' (F := F) c (v k) : sProp 𝕄) :=
  bigSep_mono fun k _ => exists_intro (Φ := fun f => own c (v k) fullShare f) (f k)
theorem forget8 {sp : Space} {s : Shape} {e : EltTy} (v : Fin 8 → View sig .tc sp s e) (f : (k : Fin 8) → Buf (Elt F) ((v k).loc (c : Thread nD τ))) :
    B8 (fun k => own c (v k) fullShare (f k)) ⊢ (B8 fun k => some' (F := F) c (v k) : sProp 𝕄) :=
  bigSep_mono fun k _ => exists_intro (Φ := fun f => own c (v k) fullShare f) (f k)

/-- The two halves of pieces are the pieces. -/
theorem whole4 {sp : Space} {s : Shape} {e : EltTy} (v : Fin 4 → View sig .tc sp s e) (f : (k : Fin 4) → Buf (Elt F) ((v k).loc (c : Thread nD τ))) :
    iprop(B4 (fun k => own c (v k) fullShare.left (f k)) ∗ B4 (fun k => own c (v k) fullShare.right (f k)))
      ⊢ (B4 fun k => own c (v k) fullShare (f k) : sProp 𝕄) := by
  rw [← bigSep_sep']
  exact bigSep_mono fun k _ => (halves c (v k) (f k)).2

end

/-! ### Before and after -/

variable (m : (ℓ : Loc nD τ sig) → Buf (Elt F) ℓ) (K : Dev nD × SemLoc sig → ℕ) (c : Dev nD)

/-- The right to each payment that device `c` makes. -/
def toks (c : Dev nD) : sProp 𝕄 :=
  iprop(B4 (fun k => tok c (.dma sAin) k.val false) ∗ B8 (fun g => tok c (.dma (sBin g)) 0 false)
    ∗ B4 (fun k => tok c (.dma (sAs k)) 0 false) ∗ B4 (fun k => tok (devY c) (.dma (sAr k)) 0 false)
    ∗ B4 (fun k => tok c (.dma (sBs k)) 0 false) ∗ B4 (fun k => tok (devY c) (.dma (sBr k)) 0 false)
    ∗ B4 (fun k => tok c (.dma (sFs k)) 0 false) ∗ B4 (fun k => tok (devX c) (.dma (sFr k)) 0 false)
    ∗ B8 (fun g => tok c (.dma (sCp g)) 0 false) ∗ tok (devX c) (.reg sReady) 0 false
    ∗ tok (devY c) (.reg sBar) 0 false ∗ tok (devX c) (.reg sBar) 0 true)

/-- What others have promised to pay to device `c`'s semaphores. -/
def crds (c : Dev nD) : sProp 𝕄 :=
  iprop(crd c (.reg sBar) 2 ∗ B4 (fun k => crd c (.dma (sAr k)) nA) ∗ B4 (fun k => crd c (.dma (sBr k)) nB)
    ∗ crd c (.reg sReady) 1 ∗ B4 (fun k => crd c (.dma (sFr k)) nB))

/-- A buffer held whole at some contents. -/
abbrev any (c : Dev nD) (b : Ref sig .tc) : sProp 𝕄 := iprop(∃ f : Buf (Elt F) ((c : Thread nD τ).loc b), (c : Thread nD τ).loc b ↦{fullShare} f)

/-- The six buffers in VMEM. -/
def scratch (c : Dev nD) : sProp 𝕄 :=
  iprop(any (F := F) c cc0_scratch0 ∗ any (F := F) c cc0_scratch1 ∗ any (F := F) c cc0_scratch2 ∗ any (F := F) c cc0_scratch3 ∗ any (F := F) c cc0_scratch4 ∗ any (F := F) c cc0_scratch5)

/-- Device `c`'s buffers in HBM, the result at contents `f`. -/
def hbm (c : Dev nD) (f : Vec F S3072x3072 .bf16) : sProp 𝕄 :=
  iprop(((c : Thread nD τ).loc main_arg0 ↦{fullShare} cA m c) ∗ ((c : Thread nD τ).loc main_arg1 ↦{fullShare} cB m c) ∗ ((c : Thread nD τ).loc main_v1 ↦{fullShare} f))

end Cert.KernelIdeal.Ag

end
-- ==== Proof.Body.lean ====
/-
The whole run of one device, at any device number: the loops one after the other, from what the device holds at the
launch to the result in HBM.
-/
module

public import proofs.«01_k».proof.Proof.Pieces

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The relay's payments, -/
abbrev l4 : List Debt := four .frv 0 ++ []
/-- with the row neighbour's go-ahead, -/
abbrev l3 : List Debt := .ready :: l4
/-- the payments after the barrier. -/
abbrev l0 : List Debt := four .arv 0 ++ (four .brv 0 ++ l3)

theorem due_all (c : Dev nD) : due (F := F) c allDebts = due c (.barY :: .barX :: l0) := rfl
theorem due_four (c : Dev nD) (f : Fin 4 → Debt) (l : List Debt) : due (F := F) c (four f 4 ++ l) = due c l := rfl
theorem l0_lev : ∀ d ∈ l0, 1 < debtLev d := by decide
theorem l3_lev : ∀ d ∈ l4, 2 < debtLev d := by decide
theorem nil_lev : ∀ d ∈ ([] : List Debt), 2 < debtLev d := by decide
theorem landing_eq (c : Dev nD) :
    landing (F := F) c = iprop(B4 (fun k => some' c (aRc k).view) ∗ B4 (fun k => some' c (bRc k).view)) := rfl

theorem relayed_eq (c : Dev nD) :
    relayed (F := F) c = B4 fun k => some' c (bVj (J c (hi k))).view := rfl

variable (m : (ℓ : Loc nD τ sig) → Buf (Elt F) ℓ) (K : Dev nD × SemLoc sig → ℕ) (c : Dev nD)

/-- The block of `B` in VMEM while half of its first four chunks is lent. -/
theorem shared_eq :
    iprop(B4 (fun k => own c (bVj (J c (lo k))).view fullShare.right (cB m c)) ∗ B4 (fun k => own c (bVj (J c (hi k))).view fullShare (cB m c)))
      = (B8 fun g => own c (bVj (J c g)).view (shareOf g) (cB m c) : sProp 𝕄) := by
  rw [split8]
  refine congrArg₂ (fun X Y : sProp 𝕄 => iprop(X ∗ Y)) ?_ ?_
  · exact bigSep_congr fun k _ => congrArg (fun q => own c (bVj (J c (lo k))).view q (cB m c)) (shareOf_lo k).symm
  · exact bigSep_congr fun k _ => congrArg (fun q => own c (bVj (J c (hi k))).view q (cB m c)) (shareOf_hi k).symm
theorem shared_join :
    iprop(B4 (fun k => own c (bVj (J c (lo k))).view fullShare.right (cB m c)) ∗ B4 (fun k => own c (bVj (J c (hi k))).view fullShare (cB m c)))
      ⊢ (B8 fun g => own c (bVj (J c g)).view (shareOf g) (cB m c) : sProp 𝕄) := Entails.of_eq (shared_eq m c)
theorem shared_split :
    (B8 fun g => own c (bVj (J c g)).view (shareOf g) (cB m c) : sProp 𝕄)
      ⊢ iprop(B4 (fun k => own c (bVj (J c (lo k))).view fullShare.right (cB m c)) ∗ B4 (fun k => own c (bVj (J c (hi k))).view fullShare (cB m c))) :=
  Entails.of_eq (shared_eq m c).symm

set_option maxHeartbeats 4000000 in
/-- The run of device `c`. -/
theorem body_run (f : Vec F S3072x3072 .bf16) :
    iprop(recs m K ∗ due c allDebts ∗ toks c ∗ allSems (fun s => pos c s 0) ∗ crds c ∗ scratch c ∗ hbm m c f)
      ⊢ run c (loops c) fun _ => iprop(due c [] ∗ allSems (fun s => nil c s ()) ∗ scratch c ∗ hbm m c (res m c)) := by
  unfold toks crds scratch hbm allSems
  iintro ⟨#HG, Hdue, ⟨Tain, Tbin, Tas, Tar, Tbs, Tbr, Tfs, Tfr, Tcp, Trd, TbY, TbX⟩, ⟨Pain, Pbin, Pas, Par, Pbs, Pbr, Pfs, Pfr, Pcp, Prd, Pbar⟩,
    ⟨Cbar, Car, Cbr, Crd, Cfr⟩, ⟨⟨%f0, SaV⟩, ⟨%f1, SbV⟩, ⟨%f2, SoV⟩, ⟨%f3, SaR⟩, ⟨%f4, SbR⟩, ⟨%f5, SsV⟩⟩, HaH, HbH, HoH⟩
  ihave HaH := Entails.of_eq (aH_eq c fullShare (cA m c)) $$ HaH
  ihave HbH := Entails.of_eq (bH_eq c fullShare (cB m c)) $$ HbH
  ihave HoH := Entails.of_eq (oH_eq c fullShare f) $$ HoH
  ihave HoH := forget8 c (fun g => (oHj (J c g)).view) (fun _ => f) $$ HoH
  ihave SaV := Entails.of_eq (aV_eq c fullShare f0) $$ SaV
  ihave SaV := forget4 c (fun k => (aVc k).view) (fun _ => f0) $$ SaV
  ihave SbV := Entails.of_eq (bV_eq c fullShare f1) $$ SbV
  ihave SbV := forget8 c (fun g => (bVj (J c g)).view) (fun _ => f1) $$ SbV
  ihave SoV := Entails.of_eq (oV_eq c fullShare f2) $$ SoV
  ihave SoV := forget8 c (fun g => (oVj (J c g)).view) (fun _ => f2) $$ SoV
  ihave SaR := Entails.of_eq (aR_eq c fullShare f3) $$ SaR
  ihave SaR := forget4 c (fun k => (aRc k).view) (fun _ => f3) $$ SaR
  ihave SbR := Entails.of_eq (bR_eq c fullShare f4) $$ SbR
  ihave SbR := forget4 c (fun k => (bRc k).view) (fun _ => f4) $$ SbR
  ihave SsV := Entails.of_eq ((whole_eq c fullShare cc0_scratch5 f5).symm) $$ SsV
  ihave Hdue := Entails.of_eq (due_all c) $$ Hdue
  unfold loops
  ihave Hl := Entails.of_eq ((landing_eq c).symm) $$ [SaR SbR]
  · isplitl [SaR]; · iexact SaR
    iexact SbR
  iapply (step (barrier_run m K c _ l0_lev)) $$ [Hdue TbY TbX Hl Cbar Pbar]
  · isplitr; · iexact HG
    isplitl [Hdue]; · iexact Hdue
    isplitl [TbY]; · iexact TbY
    isplitl [TbX]; · iexact TbX
    isplitl [Hl]; · iexact Hl
    isplitl [Cbar]; · iexact Cbar
    iexact Pbar
  iintro ⟨Hdue, Zbar, Hl⟩
  ihave Hl := Entails.of_eq (landing_eq (devY c)) $$ Hl
  icases Hl with ⟨YaR, YbR⟩
  ihave Rain := recs_reached m K c (.dma sAin) $$ HG
  iapply (step (aLoop m K c _)) $$ [HaH SaV YaR Tain Tas Tar Hdue Pain Rain SsV]
  · isplitr; · iexact HG
    isplitl [HaH SaV YaR Tain Tas Tar]
    · isplitl [HaH]; · iexact HaH
      isplitl [SaV]; · iexact SaV
      isplitl [YaR]; · iexact YaR
      isplitl [Tain]; · iexact Tain
      isplitl [Tas]; · iexact Tas
      iexact Tar
    isplitl [Hdue]; · iexact Hdue
    isplitl [Pain]; · iexact Pain
    isplitl [Rain]; · iexact Rain
    iexists f5; iexact SsV
  iintro ⟨⟨HaH, SaV, Cas⟩, Hdue, Pain, -, SsV⟩
  ihave Hdue := Entails.of_eq (due_four c .arv _) $$ Hdue
  iapply (step (bStartLoop m K c _)) $$ [HbH SbV Tbin Hdue]
  · isplitr; · iexact HG
    isplitl [HbH SbV Tbin]
    · isplitl [HbH]; · iexact HbH
      isplitl [SbV]; · iexact SbV
      iexact Tbin
    iexact Hdue
  iintro ⟨Cbin, Hdue⟩
  ihave Cbin := Entails.of_eq (split8 _) $$ Cbin
  icases Cbin with ⟨Cbinl, Cbinh⟩
  ihave Pbin := Entails.of_eq (split8 _) $$ Pbin
  icases Pbin with ⟨Pbinl, Pbinh⟩
  iapply (step (bLoLoop m K c _)) $$ [Cbinl Pbinl YbR Tbs Tbr Hdue]
  · isplitr; · iexact HG
    isplitl [Cbinl Pbinl YbR Tbs Tbr]
    · isplitl [Cbinl]; · iexact Cbinl
      isplitl [Pbinl]; · iexact Pbinl
      isplitl [YbR]; · iexact YbR
      isplitl [Tbs]; · iexact Tbs
      iexact Tbr
    iexact Hdue
  iintro ⟨⟨VbL, HbL, Zbinl, Cbs⟩, Hdue⟩
  ihave Hdue := Entails.of_eq (due_four c .brv _) $$ Hdue
  iapply (step (bHiLoop m K c _)) $$ [Cbinh Pbinh Hdue]
  · isplitr; · iexact HG
    isplitl [Cbinh Pbinh]
    · isplitl [Cbinh]; · iexact Cbinh
      iexact Pbinh
    iexact Hdue
  iintro ⟨⟨⟨VbH, HbH⟩, Zbinh⟩, Hdue⟩
  ihave SaV := Entails.of_eq ((aV_eq c fullShare.right (ab m c)).symm) $$ SaV
  ihave Vb := shared_join m c $$ [VbL VbH]
  · isplitl [VbL]; · iexact VbL
    iexact VbH
  iapply (step (dotLoop m c fullShare.right)) $$ [Vb SoV SaV]
  · isplitr; · iempintro
    isplitl [Vb SoV]
    · isplitl [Vb]; · iexact Vb
      iexact SoV
    iexact SaV
  iintro ⟨⟨Vb, SoV⟩, SaV⟩
  ihave Vb := shared_split m c $$ Vb
  icases Vb with ⟨VbL, VbH⟩
  ihave VbH := forget4 c (fun k => (bVj (J c (hi k))).view) (fun _ => cB m c) $$ VbH
  ihave VbH := Entails.of_eq ((relayed_eq c).symm) $$ VbH
  iapply (step (ready_run m K c _)) $$ [VbH Trd Hdue]
  · isplitr; · iexact HG
    isplitl [VbH]; · iexact VbH
    isplitl [Trd]; · iexact Trd
    iexact Hdue
  iintro Hdue
  iapply (step (aRecvLoop m K c _ l3_lev)) $$ [Car Par Hdue]
  · isplitr; · iexact HG
    isplitl [Car Par]
    · isplitl [Car]; · iexact Car
      iexact Par
    iexact Hdue
  iintro ⟨⟨SaR, Zar⟩, Hdue⟩
  iapply (step (readyWait_run m K c _ l3_lev)) $$ [Crd Prd Hdue]
  · isplitr; · iexact HG
    isplitl [Crd]; · iexact Crd
    isplitl [Prd]; · iexact Prd
    iexact Hdue
  iintro ⟨Hr, Zrd, Hdue⟩
  ihave Hr := Entails.of_eq (relayed_devX c) $$ Hr
  ihave SaR := Entails.of_eq ((aR_eq c fullShare (ab m (devY c))).symm) $$ SaR
  ihave SoV := Entails.of_eq (split8 _) $$ SoV
  icases SoV with ⟨SoVl, SoVh⟩
  ihave HoH := Entails.of_eq (split8 _) $$ HoH
  icases HoH with ⟨HoHl, HoHh⟩
  ihave Tcp := Entails.of_eq (split8 _) $$ Tcp
  icases Tcp with ⟨Tcpl, Tcph⟩
  iapply (step (midLoop m K c _ nil_lev fullShare)) $$ [Cbr Pbr Hr Tfs Tfr SoVl HoHl Tcpl Hdue SaR]
  · isplitr; · iexact HG
    isplitl [Cbr Pbr Hr Tfs Tfr SoVl HoHl Tcpl]
    · isplitl [Cbr]; · iexact Cbr
      isplitl [Pbr]; · iexact Pbr
      isplitl [Hr]; · iexact Hr
      isplitl [Tfs]; · iexact Tfs
      isplitl [Tfr]; · iexact Tfr
      isplitl [SoVl]; · iexact SoVl
      isplitl [HoHl]; · iexact HoHl
      iexact Tcpl
    isplitl [Hdue]; · iexact Hdue
    iexact SaR
  iintro ⟨⟨Zbr, RbR, Cfs, Ccpl⟩, Hdue, SaR⟩
  ihave Hdue := Entails.of_eq (due_four c .frv _) $$ Hdue
  iapply (step (hiLoop m K c fullShare)) $$ [Cfr Pfr SoVh HoHh Tcph Hdue SaR]
  · isplitr; · iexact HG
    isplitl [Cfr Pfr SoVh HoHh Tcph]
    · isplitl [Cfr]; · iexact Cfr
      isplitl [Pfr]; · iexact Pfr
      isplitl [SoVh]; · iexact SoVh
      isplitl [HoHh]; · iexact HoHh
      iexact Tcph
    isplitl [Hdue]; · iexact Hdue
    iexact SaR
  iintro ⟨⟨Zfr, VbH, Ccph⟩, Hdue, SaR⟩
  iapply (step (aDoneLoop m K c _)) $$ [Cas Pas Hdue]
  · isplitr; · iexact HG
    isplitl [Cas Pas]
    · isplitl [Cas]; · iexact Cas
      iexact Pas
    iexact Hdue
  iintro ⟨⟨LaV, Zas⟩, Hdue⟩
  iapply (step (bDoneLoop m K c _)) $$ [Cbs Pbs Cfs Pfs Hdue]
  · isplitr; · iexact HG
    isplitl [Cbs Pbs Cfs Pfs]
    · isplitl [Cbs Pbs]
      · isplitl [Cbs]; · iexact Cbs
        iexact Pbs
      isplitl [Cfs]; · iexact Cfs
      iexact Pfs
    iexact Hdue
  iintro ⟨⟨⟨LbV, Zbs⟩, LbR, Zfs⟩, Hdue⟩
  ihave Ccp := Entails.of_eq ((split8 fun g => crd (F := F) c (.dma (sCp g)) nA).symm) $$ [Ccpl Ccph]
  · isplitl [Ccpl]; · iexact Ccpl
    iexact Ccph
  imod (close m K c (.dma sAin) 4 le_rfl) $$ [Pain] with Zain
  · isplitr; · iexact HG
    iexact Pain
  iapply (last (outDoneLoop m K c _)) $$ [Ccp Pcp Hdue]
  · isplitr; · iexact HG
    isplitl [Ccp Pcp]
    · isplitl [Ccp]; · iexact Ccp
      iexact Pcp
    iexact Hdue
  iintro ⟨⟨⟨HoH, SoV⟩, Zcp⟩, Hdue⟩
  ihave Zbin := Entails.of_eq ((split8 fun g => nil (F := F) c (.dma (sBin g)) ()).symm) $$ [Zbinl Zbinh]
  · isplitl [Zbinl]; · iexact Zbinl
    iexact Zbinh
  ihave HbH := Entails.of_eq ((split8 fun g => own c (bHj (J c g)).view fullShare (cB m c)).symm) $$ [HbL HbH]
  · isplitl [HbL]; · iexact HbL
    iexact HbH
  ihave SbV := whole4 c (fun k => (bVj (J c (lo k))).view) (fun _ => cB m c) $$ [LbV VbL]
  · isplitl [LbV]; · iexact LbV
    iexact VbL
  ihave SbV := forget4 c (fun k => (bVj (J c (lo k))).view) (fun _ => cB m c) $$ SbV
  ihave VbH := forget4 c (fun k => (bVj (J c (hi k))).view) (fun _ => fb m c) $$ VbH
  ihave SbV := Entails.of_eq ((split8 fun g => some' (F := F) c (bVj (J c g)).view).symm) $$ [SbV VbH]
  · isplitl [SbV]; · iexact SbV
    iexact VbH
  ihave SbV := bV_some c (cB m c) $$ SbV
  ihave SbR := whole4 c (fun k => (bRc k).view) (fun _ => br m c) $$ [LbR RbR]
  · isplitl [LbR]; · iexact LbR
    iexact RbR
  ihave SbR := Entails.of_eq ((bR_eq c fullShare (br m c)).symm) $$ SbR
  ihave SaV := Entails.of_eq (aV_eq c fullShare.right (ab m c)) $$ SaV
  ihave SaV := whole4 c (fun k => (aVc k).view) (fun _ => ab m c) $$ [LaV SaV]
  · isplitl [LaV]; · iexact LaV
    iexact SaV
  ihave SaV := Entails.of_eq ((aV_eq c fullShare (ab m c)).symm) $$ SaV
  ihave SoV := Entails.of_eq ((oV_eq c fullShare (res m c)).symm) $$ SoV
  ihave HoH := Entails.of_eq ((oH_eq c fullShare (res m c)).symm) $$ HoH
  ihave HbH := Entails.of_eq ((bH_eq c fullShare (cB m c)).symm) $$ HbH
  ihave HaH := Entails.of_eq ((aH_eq c fullShare (cA m c)).symm) $$ HaH
  icases SsV with ⟨%f5, SsV⟩
  ihave SsV := Entails.of_eq (whole_eq c fullShare cc0_scratch5 f5) $$ SsV
  isplitl [Hdue]; · iexact Hdue
  isplitl [Zain Zbin Zas Zar Zbs Zbr Zfs Zfr Zcp Zrd Zbar]
  · isplitl [Zain]; · iexact Zain
    isplitl [Zbin]; · iexact Zbin
    isplitl [Zas]; · iexact Zas
    isplitl [Zar]; · iexact Zar
    isplitl [Zbs]; · iexact Zbs
    isplitl [Zbr]; · iexact Zbr
    isplitl [Zfs]; · iexact Zfs
    isplitl [Zfr]; · iexact Zfr
    isplitl [Zcp]; · iexact Zcp
    isplitl [Zrd]; · iexact Zrd
    iexact Zbar
  isplitl [SaV SbV SoV SaR SbR SsV]
  · isplitl [SaV]; · iexists _; iexact SaV
    isplitl [SbV]; · iexact SbV
    isplitl [SoV]; · iexists _; iexact SoV
    isplitl [SaR]; · iexists _; iexact SaR
    isplitl [SbR]; · iexists _; iexact SbR
    iexists _; iexact SsV
  isplitl [HaH]; · iexact HaH
  isplitl [HbH]; · iexact HbH
  iexact HoH

end Cert.KernelIdeal.Ag

end
-- ==== Proof.Deal.lean ====
/-
What the launch deals the devices: every semaphore put under the schedule, each payment's right to the device that makes
it, and what the others have promised to each semaphore.
-/
module

public import proofs.«01_k».proof.Proof.Pieces

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The semaphores of all devices and the payments to them -/

/-- A semaphore of a device. -/
abbrev cellAt (x : Dev nD × SemLoc sig) : GSem nD τ sig := ((x.1 : Thread nD τ), x.2)

theorem cellAt_injective : Function.Injective cellAt := by
  rintro ⟨c, s⟩ ⟨c', s'⟩ h
  exact Prod.ext (congrArg (fun g : GSem nD τ sig => g.1.1) h) (congrArg (fun g : GSem nD τ sig => g.2) h)

def allCells : Finset (GSem nD τ sig) := Finset.univ.map ⟨cellAt, cellAt_injective⟩

/-- The payments beyond each semaphore's first: the barrier's other one and the staging semaphore's later rounds. -/
def further (i : Fin 4) : SemLoc sig × ℕ × Bool := if i = 0 then (.reg sBar, 0, true) else (.dma sAin, i.val, false)
/-- The payments to a device's semaphores. -/
def payments : SemLoc sig ⊕ Fin 4 → SemLoc sig × ℕ × Bool
  | .inl s => (s, 0, false)
  | .inr i => further i

theorem payments_injective : Function.Injective payments := by
  have h₁ : ∀ (s : SemLoc sig) (i : Fin 4), payments (.inl s) ≠ payments (.inr i) := by
    intro s i h
    have hf : ∀ i : Fin 4, (0, false) ≠ (further i).2 := by decide
    exact hf i (congrArg Prod.snd h)
  rintro (s | i) (s' | i') h
  · exact congrArg Sum.inl (congrArg Prod.fst h)
  · exact absurd h (h₁ s i')
  · exact absurd h.symm (h₁ s' i)
  · have h' : (further i).2 = (further i').2 := congrArg Prod.snd h
    refine congrArg Sum.inr ?_
    revert h'; revert i i'
    intro i i' _; revert i i'; decide

abbrev tokenAt (x : Dev nD × (SemLoc sig ⊕ Fin 4)) : GSem nD τ sig × ℕ × Bool := (cellAt (x.1, (payments x.2).1), (payments x.2).2)

theorem tokenAt_injective : Function.Injective tokenAt := by
  rintro ⟨c, p⟩ ⟨c', p'⟩ h
  have hc : c = c' := congrArg (fun x : GSem nD τ sig × ℕ × Bool => x.1.1.1) h
  have hp : payments p = payments p' :=
    Prod.ext (congrArg (fun x : GSem nD τ sig × ℕ × Bool => x.1.2) h) (congrArg (fun x : GSem nD τ sig × ℕ × Bool => x.2) h)
  rw [hc, payments_injective hp]

def allTokens : Finset (GSem nD τ sig × ℕ × Bool) := Finset.univ.map ⟨tokenAt, tokenAt_injective⟩

/-- The rights to pay device `c`'s own semaphores. -/
def ownToks (c : Dev nD) : sProp 𝕄 :=
  iprop(allSems (fun s => tok c s 0 false) ∗ tok c (.reg sBar) 0 true ∗ tok c (.dma sAin) 1 false ∗ tok c (.dma sAin) 2 false ∗ tok c (.dma sAin) 3 false)

theorem four_eq (Φ : Fin 4 → sProp 𝕄) : B4 Φ = iprop(Φ 0 ∗ Φ 1 ∗ Φ 2 ∗ Φ 3) :=
  bigSep_univ_eq_bigSepL [0, 1, 2, 3] (by decide) (by decide) Φ

/-- `toks`, with the neighbours named. -/
def toksOf (y x c : Dev nD) : sProp 𝕄 :=
  iprop(B4 (fun k => tok c (.dma sAin) k.val false) ∗ B8 (fun g => tok c (.dma (sBin g)) 0 false)
    ∗ B4 (fun k => tok c (.dma (sAs k)) 0 false) ∗ B4 (fun k => tok y (.dma (sAr k)) 0 false)
    ∗ B4 (fun k => tok c (.dma (sBs k)) 0 false) ∗ B4 (fun k => tok y (.dma (sBr k)) 0 false)
    ∗ B4 (fun k => tok c (.dma (sFs k)) 0 false) ∗ B4 (fun k => tok x (.dma (sFr k)) 0 false)
    ∗ B8 (fun g => tok c (.dma (sCp g)) 0 false) ∗ tok x (.reg sReady) 0 false
    ∗ tok y (.reg sBar) 0 false ∗ tok x (.reg sBar) 0 true)

theorem ownToks_list (c : Dev nD) : (ownToks c : sProp 𝕄) ⊢ toksOf c c c := by
  unfold ownToks allSems toksOf
  rw [four_eq (fun k => tok c (.dma sAin) k.val false)]
  iintro ⟨⟨Tain, Tbin, Tas, Tar, Tbs, Tbr, Tfs, Tfr, Tcp, Trd, Tb⟩, Tb', T1, T2, T3⟩
  isplitl [Tain T1 T2 T3]
  · isplitl [Tain]; · iexact Tain
    isplitl [T1]; · iexact T1
    isplitl [T2]; · iexact T2
    iexact T3
  isplitl [Tbin]; · iexact Tbin
  isplitl [Tas]; · iexact Tas
  isplitl [Tar]; · iexact Tar
  isplitl [Tbs]; · iexact Tbs
  isplitl [Tbr]; · iexact Tbr
  isplitl [Tfs]; · iexact Tfs
  isplitl [Tfr]; · iexact Tfr
  isplitl [Tcp]; · iexact Tcp
  isplitl [Trd]; · iexact Trd
  isplitl [Tb] <;> iassumption

/-- Every right goes to the device that pays: along a column or along a row of the mesh. -/
theorem toks_dealt : (bigSep Finset.univ fun c : Dev nD => (ownToks c : sProp 𝕄)) ⊢ bigSep Finset.univ fun c : Dev nD => toks c := by
  refine BIBase.Entails.trans (bigSep_mono fun c _ => ownToks_list (F := F) c) (Entails.of_eq ?_)
  unfold toksOf toks
  simp only [bigSep_sep']
  rw [bigSep_univ_equiv swapY fun c : Dev nD => (B4 fun k => tok c (.dma (sAr k)) 0 false : sProp 𝕄),
    bigSep_univ_equiv swapY fun c : Dev nD => (B4 fun k => tok c (.dma (sBr k)) 0 false : sProp 𝕄),
    bigSep_univ_equiv swapX fun c : Dev nD => (B4 fun k => tok c (.dma (sFr k)) 0 false : sProp 𝕄),
    bigSep_univ_equiv swapX fun c : Dev nD => (tok c (.reg sReady) 0 false : sProp 𝕄),
    bigSep_univ_equiv swapY fun c : Dev nD => (tok c (.reg sBar) 0 false : sProp 𝕄),
    bigSep_univ_equiv swapX fun c : Dev nD => (tok c (.reg sBar) 0 true : sProp 𝕄)]
  rfl

/-! ### The shared record made -/

variable (m : (ℓ : Loc nD τ sig) → Buf (Elt F) ℓ)

/-- The positions and the rights of device `c`'s semaphores. -/
def lin (c : Dev nD) : sProp 𝕄 := iprop(toks c ∗ allSems fun s => pos c s 0)

/-- The record without the levels. -/
def recs₀ (K : Dev nD × SemLoc sig → ℕ) : sProp 𝕄 :=
  iprop((bigSep Finset.univ fun x : Dev nD × SemLoc sig => cellInv ER (sched m) (K x) (cellAt x))
    ∗ bigSep Finset.univ fun x : Dev nD × SemLoc sig => reached ER (cellAt x) 0)

instance recs₀_persistent (K : Dev nD × SemLoc sig → ℕ) : BI.Persistent (recs₀ m K) := by unfold recs₀; infer_instance

/-- What the launch's ghost state gives device `c`. -/
def dealt (c : Dev nD) : sProp 𝕄 :=
  iprop((bigSep Finset.univ fun s : SemLoc sig => roundState ER (sched m) (cellAt (c, s)) 0)
    ∗ (bigSep Finset.univ fun s : SemLoc sig => atPos ER (cellAt (c, s)) 0 ∅ 0)
    ∗ (bigSep Finset.univ fun s : SemLoc sig => reached ER (cellAt (c, s)) 0) ∗ ownToks c)
/-- What device `c` has once the semaphores are under the schedule. -/
def ready (c : Dev nD) : sProp 𝕄 := iprop(∃ K, recs₀ m K ∗ lin c)

theorem fund_all : BI.own (ER (initOf allCells allTokens)) ⊢ (|==> bigSep Finset.univ (dealt m) : sProp 𝕄) := by
  have hC (Φ : GSem nD τ sig → sProp 𝕄) : bigSep allCells Φ = bigSep Finset.univ fun c : Dev nD => bigSep Finset.univ fun s : SemLoc sig => Φ (cellAt (c, s)) := by
    unfold allCells; rw [bigSep_map, bigSep_univ_prod]; rfl
  have hT : bigSep allTokens (fun x => (dutyTok ER x.1 x.2.1 x.2.2 : sProp 𝕄)) = bigSep Finset.univ fun c : Dev nD => ownToks c := by
    unfold allTokens; rw [bigSep_map, bigSep_univ_prod]
    refine bigSep_congr fun c _ => ?_
    rw [bigSep_univ_sum]
    exact congrArg₂ (fun X Y : sProp 𝕄 => iprop(X ∗ Y)) (sems_eq _) (four_eq _)
  iintro H
  imod (Rounds.fund ER (sched m) allCells allTokens) $$ H with ⟨Hst, Hr, Hat, Htok⟩
  imodintro
  ihave Hst := (Entails.of_eq (hC fun g => roundState ER (sched m) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold dealt; simp only [bigSep_sep']
  isplitl [Hst]; · iexact Hst
  isplitl [Hat]; · iexact Hat
  isplitl [Hr] <;> iassumption

/-- The kernel's own semaphores: all but the collective barrier's. -/
abbrev osem : {s : SemLoc sig // s ≠ .reg sBar} → SemLoc sig := Subtype.val

theorem semsOf_eq (c : Dev nD) :
    iprop(unscopedSems0 c ∗ Pipeline.ownSems0 (Ix := Unit) (Name := ℕ) (U := UU) (Lvl := ℕ) (Val := Elt F) (τ := τ) osem c)
      = (bigSep Finset.univ fun s : SemLoc sig => semVal (cellAt (c, s)) 0 : sProp 𝕄) := by
  rw [bigSep_univ_at _ (SemLoc.reg sBar)]
  refine congrArg₂ (fun X Y : sProp 𝕄 => iprop(X ∗ Y)) ?_ ?_
  · unfold unscopedSems0; rw [bigSep_eq_bigSepL_of_eq [SemLoc.reg sBar] (by decide) (by decide)]; rfl
  · exact bigSep_subtype_ne (SemLoc.reg sBar) fun s => (semVal (cellAt (c, s)) 0 : sProp 𝕄)

theorem device_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun s => iprop(∃ κ : ℕ, cellInv ER (sched m) κ (cellAt (c, s))))
          ∗ (bigSep Finset.univ fun s : SemLoc sig => atPos ER (cellAt (c, s)) 0 ∅ 0)
          ∗ (bigSep Finset.univ fun s : SemLoc sig => reached ER (cellAt (c, s)) 0) ∗ ownToks c) := by
  have halloc : iprop((bigSep Finset.univ fun s : SemLoc sig => semVal (cellAt (c, s)) 0) ∗ bigSep Finset.univ fun s : SemLoc sig => roundState ER (sched m) (cellAt (c, s)) 0)
      ⊢ (|={Set.univ}=> bigSep Finset.univ fun s => iprop(∃ κ : ℕ, cellInv ER (sched m) κ (cellAt (c, s))) : sProp 𝕄) := by
    rw [← bigSep_sep']
    exact (bigSep_mono fun s _ => (Rounds.body_intro ER (sched m) (cellAt (c, s))).trans inv_alloc).trans (bigSep_fupd _ _)
  unfold dealt
  iintro ⟨Hos, Hus, Hst, Hrest⟩
  ihave Hv := (Entails.of_eq (semsOf_eq (F := F) c)) $$ [Hos Hus]
  · isplitl [Hus] <;> iassumption
  imod halloc $$ [Hv Hst] with Hinv
  · isplitl [Hv] <;> iassumption
  imodintro
  isplitl [Hinv] <;> iassumption

theorem ready_intro (K : Dev nD × SemLoc sig → ℕ) (c : Dev nD) : iprop(recs₀ m K ∗ lin c) ⊢ ready m c := by
  unfold ready
  iintro H
  iexists K
  iexact H

theorem shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather :
    (bigSep Finset.univ fun c : Dev nD => iprop((bigSep Finset.univ fun s => iprop(∃ κ : ℕ, cellInv ER (sched m) κ (cellAt (c, s))))
          ∗ (bigSep Finset.univ fun s : SemLoc sig => atPos ER (cellAt (c, s)) 0 ∅ 0)
          ∗ (bigSep Finset.univ fun s : SemLoc sig => reached ER (cellAt (c, s)) 0) ∗ ownToks c) : sProp 𝕄)
      ⊢ bigSep Finset.univ (ready m) := by
  rw [bigSep_sep', bigSep_sep', bigSep_sep', ← bigSep_univ_prod (fun x : Dev nD × SemLoc sig => iprop(∃ κ : ℕ, cellInv ER (sched m) κ (cellAt x))),
    ← bigSep_univ_prod (fun x : Dev nD × SemLoc sig => (reached ER (cellAt x) 0 : sProp 𝕄))]
  iintro ⟨HI, Hat, #HR, Htok⟩
  ihave HK := (BI.bigSep_exists_pi Finset.univ (fun (x : Dev nD × SemLoc sig) (κ : ℕ) => (cellInv ER (sched m) κ (cellAt x) : sProp 𝕄))) $$ HI
  icases HK with ⟨%K, #HI⟩
  ihave Htok := (toks_dealt (F := F)) $$ Htok
  iapply (shared (R := recs₀ m K) fun c _ => ready_intro m K c)
  isplitr
  · unfold recs₀; isplitl; · iexact HI
    iexact HR
  · unfold lin
    rw [bigSep_sep']
    isplitl [Htok]; · iexact Htok
    iapply (Entails.of_eq (bigSep_congr (s := Finset.univ) fun (c : Dev nD) _ => sems_eq (F := F) fun s => pos c s 0))
    iexact Hat

/-- All semaphores of all devices put under the schedule at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => device_alloc m c).trans (bigSep_fupd _ _)).trans (BI.fupd_mono (gather m))

/-! ### What the others have promised -/

theorem amt_debt (d : Debt) : debtAmt d = amt (kindOf (debtSem d)) := by
  cases d <;> simp only [debtAmt, debtSem, kind_bar, kind_ready, kind_arv, kind_brv, kind_frv, amt]

/-- How many payments of the list go to a semaphore. -/
def count (d : Dev nD) (x : Dev nD × SemLoc sig) (l : List Debt) : ℕ := (l.map fun e => if debtDev d e = x.1 ∧ debtSem e = x.2 then 1 else 0).sum

theorem owed_count (d : Dev nD) (x : Dev nD × SemLoc sig) (l : List Debt) : owed d l (cellAt x) () = count d x l * amt (kindOf x.2) := by
  rw [owed_apply, count]
  induction l with
  | nil => exact (Nat.zero_mul _).symm
  | cons e l ih =>
    rw [List.map_cons, List.sum_cons, List.map_cons, List.sum_cons, Nat.add_mul, ih]
    congr 1
    by_cases h : debtDev d e = x.1 ∧ debtSem e = x.2
    · rw [if_pos h, if_pos (by unfold debtCell cellAt; rw [h.1, h.2]), amt_debt, h.2, Nat.one_mul]
    · rw [if_neg h, Nat.zero_mul, if_neg]
      intro h'
      exact h ⟨(congrArg (fun g : GSem nD τ sig => g.1.1) h').symm, (congrArg Prod.snd h').symm⟩

theorem promised (x : Dev nD × SemLoc sig) (n : ℕ) (h : ∑ d : Dev nD, count d x allDebts = n) :
    tallyOn (cellAt x) (launchCredit (Pipeline.owing O₀) 0 (cellAt x)) = (tallyAt (cellAt x) () (n * amt (kindOf x.2)) : CellTallies nD τ sig Unit) := by
  unfold tallyAt
  refine congrArg _ (Finsupp.ext fun u => ?_)
  cases u
  rw [Pipeline.launchCredit_owing, Finsupp.single_eq_same, Finset.sum_congr rfl fun d _ => show O₀ d (cellAt x) () = _ from owed_count d x allDebts, ← Finset.sum_mul, h]

theorem count_bar (c : Dev nD) : ∑ d : Dev nD, count d (c, .reg sBar) allDebts = 2 := by revert c; decide +kernel
theorem count_ready (c : Dev nD) : ∑ d : Dev nD, count d (c, .reg sReady) allDebts = 1 := by revert c; decide +kernel
theorem count_arv (c : Dev nD) (k : Fin 4) : ∑ d : Dev nD, count d (c, .dma (sAr k)) allDebts = 1 := by revert c k; decide +kernel
theorem count_brv (c : Dev nD) (k : Fin 4) : ∑ d : Dev nD, count d (c, .dma (sBr k)) allDebts = 1 := by revert c k; decide +kernel
theorem count_frv (c : Dev nD) (k : Fin 4) : ∑ d : Dev nD, count d (c, .dma (sFr k)) allDebts = 1 := by revert c k; decide +kernel

theorem promise (c : Dev nD) (s : SemLoc sig) (n a : ℕ) (h : ∑ d : Dev nD, count d (c, s) allDebts = n) (ha : n * amt (kindOf s) = a) :
    (cred (tallyOn (cellAt (c, s)) (launchCredit (Pipeline.owing O₀) 0 (cellAt (c, s)))) : sProp 𝕄) ⊢ crd c s a := by
  rw [promised (c, s) n h, ha]

theorem mono4 {Φ Ψ : Fin 4 → sProp 𝕄} (h : ∀ k, Φ k ⊢ Ψ k) : B4 Φ ⊢ B4 Ψ := bigSep_mono fun k _ => h k

theorem crds_intro (c : Dev nD) : (Pipeline.launchCred O₀ c : sProp 𝕄) ⊢ crds c := by
  unfold Pipeline.launchCred
  rw [sems_eq]
  unfold allSems crds
  iintro ⟨-, -, -, Har, -, Hbr, -, Hfr, -, Hrd, Hbar⟩
  isplitl [Hbar]
  · iapply (promise c (.reg sBar) 2 2 (count_bar c) rfl); iexact Hbar
  isplitl [Har]
  · iapply (mono4 fun k => promise (F := F) c (.dma (sAr k)) 1 nA (count_arv c k) (by rw [kind_arv]; exact Nat.one_mul _)); iexact Har
  isplitl [Hbr]
  · iapply (mono4 fun k => promise (F := F) c (.dma (sBr k)) 1 nB (count_brv c k) (by rw [kind_brv]; exact Nat.one_mul _)); iexact Hbr
  isplitl [Hrd]
  · iapply (promise c (.reg sReady) 1 1 (count_ready c) rfl); iexact Hrd
  · iapply (mono4 fun k => promise (F := F) c (.dma (sFr k)) 1 nB (count_frv c k) (by rw [kind_frv]; exact Nat.one_mul _)); iexact Hfr

end Cert.KernelIdeal.Ag

end
-- ==== Proof.Launch.lean ====
/-
The run of the whole kernel on all devices: it ends, with every semaphore at zero, the arguments unchanged and the result
as `res` says.
-/
module

public import proofs.«01_k».proof.Proof.Body
public import proofs.«01_k».proof.Proof.Deal
public import proofs.«01_k».proof.Proof.Gen.KernelIdeal.Frame
public import Idealize.ShloMosaic.Lib.Pipeline.CollectiveSegs

@[expose] public section

noncomputable section

namespace Cert.KernelIdeal.Ag

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` brings to its run, the scoped buffers apart. -/
def begins (c : Dev nD) : sProp 𝕄 :=
  iprop(∃ K, recs m K ∗ toks c ∗ allSems (fun s => pos c s 0) ∗ crds c ∗ hbm m c (m ((c : Thread nD τ).loc main_v1)))
/-- What it holds before its run and -/
def before (c : Dev nD) : sProp 𝕄 := iprop(begins m c ∗ scratch c)
/-- after it. -/
def after (c : Dev nD) : sProp 𝕄 := iprop(allSems (fun s => nil c s ()) ∗ scratch c ∗ hbm m c (res m c))

def dats (_ : Fin 1) (c : Dev nD) : Dat τ (Elt F) Unit ℕ UU ℕ cfg0 c where
  A w := m ((cfg0.win w).arr.view.loc (c : Thread nD τ))
  after w _ := absurd w.isLt (Nat.not_lt_zero _)
  Φ t := match t with
    | ⟨0, _⟩ => before m c
    | ⟨_ + 1, _⟩ => after m c
  q _ := fullShare
  owed t := match t with
    | ⟨0, _⟩ => O₀ c
    | ⟨_ + 1, _⟩ => 0

theorem no_windows (Φ : Fin cfg0.W → sProp 𝕄) : bigSep Finset.univ Φ = iprop(emp) := by
  rw [show (Finset.univ : Finset (Fin cfg0.W)) = ∅ from rfl, BI.bigSep_empty]; rfl

theorem body_program (c : Dev nD) :
    iprop(before m c ∗ due c allDebts)
      ⊢ run c (Prog.lift .deviceId >>= fun d => loops (F := F) d) fun _ => iprop(after m c ∗ due c []) := by
  unfold before begins after
  simp only [run, Prog.lift, Prog.bind_op, Prog.bind_ret, Prog.pure_eq_ret, wp_deviceId]
  iintro ⟨⟨⟨%K, HG, Ht, Hp, Hc, Hh⟩, Hs⟩, Hdue⟩
  iapply (last (body_run m K c (m ((c : Thread nD τ).loc main_v1)))) $$ [HG Ht Hp Hc Hh Hs Hdue]
  · isplitl [HG]; · iexact HG
    isplitl [Hdue]; · iexact Hdue
    isplitl [Ht]; · iexact Ht
    isplitl [Hp]; · iexact Hp
    isplitl [Hc]; · iexact Hc
    isplitl [Hs] <;> iassumption
  iintro ⟨Hdue, Hz, Hs, Hh⟩
  isplitr [Hdue]
  · isplitl [Hz]; · iexact Hz
    isplitl [Hs] <;> iassumption
  · iexact Hdue

set_option maxRecDepth 65536 in
theorem body_obligation (c : Dev nD) : BodyObligation (dats (F := F) m 0 c) (defs₀ (F := F)) 𝒱₀ () Set.univ := fun t => by
  rw [no_windows, no_windows]
  rw [fin_N0 t]
  show iprop(before m c ∗ (dats m 0 c).owesAt () t0_0.castSucc ∗ emp) ⊢
    run c (bodyAt0 (F := F) t0_0) fun _ => iprop(after m c ∗ (dats m 0 c).owesAt () t0_0.succ ∗ emp)
  rw [body_eq_loops]
  unfold Dat.owesAt Pipeline.owesWithin
  iintro ⟨Hb, ⟨%W, -, Ho⟩, -⟩
  iapply (last (body_program m c)) $$ [Hb Ho]
  · isplitl [Hb]; · iexact Hb
    unfold due
    iexists W; iexact Ho
  unfold due
  iintro ⟨Ha, %W', Ho⟩
  isplitl [Ha]; · iexact Ha
  isplitl
  · iexists W'
    isplitr; · ipureintro; exact fun _ _ => Or.inl trivial
    iexact Ho
  · iempintro

theorem ownSemFacts : Pipeline.OwnSemFacts cfg0.spec osem := by decide

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(begins m c ∗ emp) := by
  rw [Pipeline.unscopedRestP_none, unscopedRest0_eq]
  unfold ready lin
  iintro ⟨Hh, Hlev, Hcr, -, ⟨%K, HG, Ht, Hp⟩⟩
  ihave Hc := (crds_intro (F := F) c) $$ Hcr
  imodintro
  isplitl
  · unfold begins recs recs₀ hbm
    icases HG with ⟨HI, HR⟩
    iexists K
    isplitl [HI HR Hlev]
    · isplitl [HI]; · iexact HI
      isplitl [HR] <;> iassumption
    isplitl [Ht]; · iexact Ht
    isplitl [Hp]; · iexact Hp
    isplitl [Hc]; · iexact Hc
    iexact Hh
  · iempintro

theorem enter (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hb, -, Hs⟩
  isplitl [Hb] <;> iassumption

theorem leave (c : Dev nD) :
    (dats m 0 c).Φ (Fin.last cfg0.N) ⊢ iprop((unscopedSems0 c ∗ hbm m c (res m c)) ∗ Pipeline.ownSems0 osem c ∗ Pipeline.scopedRest cfg0.spec c) := by
  rw [show (dats m 0 c).Φ (Fin.last cfg0.N) = after m c from rfl, scopedRest0_eq]
  unfold after scratch
  rw [← sems_eq, ← semsOf_eq]
  iintro ⟨⟨Hu, Ho⟩, Hs, Hh⟩
  isplitl [Hu Hh]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w _ _ => absurd w.isLt (Nat.not_lt_zero _)

/-- What the memory holds of one buffer. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  icombine HSI Hi gives %h
  isplitr
  · ipureintro; exact Buf.eq_of_forall_mem_univ h
  · iexact HSI

/-- What device `c`'s memory holds in the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = res m c

theorem read_hbm (c : Dev nD) (s' : Phys nD τ sig (Elt F)) :
    iprop(hbm m c (res m c) ∗ SI s') ⊢ (iprop(⌜Ends m c s'.mem⌝ ∗ SI s') : sProp 𝕄) := by
  unfold hbm
  iintro ⟨⟨H0, H1, H2⟩, HSI⟩
  ihave H := (read_one ((c : Thread nD τ).loc main_arg0) (cA m c) s') $$ [H0 HSI]
  · isplitl [H0] <;> iassumption
  icases H with ⟨%h0, HSI⟩
  ihave H := (read_one ((c : Thread nD τ).loc main_arg1) (cB m c) s') $$ [H1 HSI]
  · isplitl [H1] <;> iassumption
  icases H with ⟨%h1, HSI⟩
  ihave H := (read_one ((c : Thread nD τ).loc main_v1) (res m c) s') $$ [H2 HSI]
  · isplitl [H2] <;> iassumption
  icases H with ⟨%h2, HSI⟩
  isplitr
  · ipureintro; exact ⟨h0, h1, h2⟩
  · iexact HSI

def u₀ : UU :=
  (initOf (Pipeline.cells cfgs cellOf_inj) (Pipeline.launchToks cfgs cellOf_inj), initOf allCells allTokens)

set_option maxRecDepth 8000 in
/-- From any memory with all semaphores at zero, on any device mesh schedule: the kernel ends, each device's arguments
    are as before, its result is `res`, and all semaphores are at zero again. -/
theorem run_main : θ_run defs (onTc (τ := τ) (main (F := F))) ⟨m, fun _ => 0, ρ⟩
    (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => absurd w.isLt (Nat.not_lt_zero _)) (harr := arr_whole0) (hstage := stage_whole0)
    (hshare := fun _ w => absurd w.isLt (Nat.not_lt_zero _))
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := begins m) (Y := fun c => iprop(unscopedSems0 c ∗ hbm m c (res m c))) (Z := fun _ => iprop(emp))
    (hX := begin_intro m ρ) (hin := enter m) (hout := leave m)
    (QY := fun c s => (∀ sm : SemLoc sig, sm.isScoped .tc = false → s.sem ((c.tc : Thread nD τ), sm) = 0) ∧ Ends m c s)
    (hY := fun c s' => by
      iintro ⟨⟨Hu, Hh⟩, -, HSI⟩
      ihave H := (read_hbm m c s') $$ [Hh HSI]
      · isplitl [Hh] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr
      · ipureintro; exact ⟨h', h⟩
      · iexact HSI)
    (hQ := fun _ h hs => ⟨fun c => (h c).2.2.2, sem_eq_zero hs fun c => (h c).2.2.1⟩)

end Cert.KernelIdeal.Ag

end
-- ==== Proof.Block.lean ====
/-
What one chunk of the product computes, over the extended reals: an entry of the first half is the sum, over the
1536 rows of one block of `B`, of the products of the entries; an entry of the second half adds the same sum, over the
other block, to what the first half left. The casts change nothing there.
-/
module

public import proofs.«01_k».proof.Proof.Contents
public import Idealize.ShloMosaic.Lib.MatmulPlain

@[expose] public section

noncomputable section

namespace Cert.KernelIdeal.Ag

open Cert.KernelIdeal.Gen
open Idealize.ShloMosaic Idealize.ShloMosaic.ValueIdx

/-- Row `r` of a matrix of 1536 columns against column `q` of a matrix of 1536 rows. -/
def dot {M N : ℕ} (a : (⟨2, ![M, 1536]⟩ : Shape).Idx → EReal) (b : (⟨2, ![1536, N]⟩ : Shape).Idx → EReal)
    (r : Fin M) (q : Fin N) : EReal :=
  ∑ k : Fin 1536, a (ix2 r k) * b (ix2 k q)

theorem product_apply (a : Vec Ideal S3072x1536 .bf16) (b : Vec Ideal S1536x384 .bf16) (r : Fin 3072) (q : Fin 384) :
    matmul (F := Ideal) (φ₁ := .bf16) (φ₂ := .bf16) dot_S3072x1536_S1536x384_S3072x384_1_0_0_1_n_n none a b
        (constant S3072x384 .f32 0x00000000#32) (ix2 r q)
      = dot a b r q := by
  refine (Ideal.matmul_plain_apply none a b _ r q).trans ?_
  show Ideal.ofBits .f32 0x00000000#32 + _ = _
  rw [Ideal.ofBits_zero_f32, zero_add]
  rfl

/-- The first half of the sum. -/
theorem first_apply (a : Vec Ideal S3072x1536 .bf16) (b : Vec Ideal S1536x384 .bf16) (r : Fin 3072) (q : Fin 384) :
    k0_pay6 a b (ix2 r q) = dot a b r q := by
  unfold k0_pay6
  rw [shapeCast_self]
  exact product_apply a b r q

/-- The second half, added to the first. -/
theorem second_apply (x : Vec Ideal S3072x384 .bf16) (a : Vec Ideal S3072x1536 .bf16) (b : Vec Ideal S1536x384 .bf16)
    (r : Fin 3072) (q : Fin 384) : k0_pay15 x a b (ix2 r q) = x (ix2 r q) + dot a b r q := by
  unfold k0_pay15
  rw [shapeCast_self]
  exact congrArg (x (ix2 r q) + ·) (product_apply a b r q)

end Cert.KernelIdeal.Ag

end
-- ==== Proof.Held.lean ====
/-
What the array holds: entry `(r, s)` of device `c`'s result, over the extended reals, is row `r` of its own block of
`A` against column `s` of its own block of `B`, plus the same of its column neighbour's two blocks, as long as the two
devices that hold the neighbour's block of `B` hold the same.
-/
module

public import proofs.«01_k».proof.Proof.Block

@[expose] public section

noncomputable section

namespace Cert.KernelIdeal.Ag

open Cert.KernelIdeal.Gen
open Idealize.ShloMosaic Idealize.ShloMosaic.ValueIdx
open Idealize.ShloMosaic.TcCoe

variable (m : (ℓ : Loc nD τ sig) → Buf (Elt Ideal) ℓ)

/-- A column of a chunk is a column of the block the chunk was cut from. -/
theorem dot_ck (a : Vec Ideal S3072x1536 .bf16) (b : Vec Ideal S1536x3072 .bf16) (j : Fin 8) (r : Fin 3072) (q : Fin 384)
    (s : Fin 3072) (h : s.val = 384 * j.val + q.val) : dot a (ck j b) r q = dot a b r s := by
  refine Finset.sum_congr rfl fun k _ => congrArg (a (ix2 r k) * ·) (congrArg b (funext fun x => ?_))
  refine Fin.cases ?_ (fun x => Fin.cases ?_ (fun x => x.elim0) x) x
  · exact Fin.ext (show 0 + 1 * k.val = k.val by omega)
  · exact Fin.ext (show 384 * j.val + 1 * q.val = s.val by omega)

/-- The received block of `B` is the neighbour's, whichever way it came. -/
theorem src_eq (c : Dev nD) (j : Fin 8) (h : cB m (devY (devX c)) = cB m (devY c)) : src m c j = cB m (devY c) := by
  unfold src fb
  split
  · rfl
  · exact h

theorem res_apply (c : Dev nD) (h : cB m (devY (devX c)) = cB m (devY c)) (r s : Fin 3072) :
    res m c (ix2 r s) = dot (cA m c) (cB m c) r s + dot (cA m (devY c)) (cB m (devY c)) r s := by
  have hs : s.val = 384 * (s.val / 384) + s.val % 384 := (Nat.div_add_mod _ _).symm
  have hj : s.val / 384 < 8 := by have := s.isLt; omega
  show k0_pay15 (k0_pay6 (ab m c) (ck ⟨s.val / 384, hj⟩ (cB m c))) (ab m (devY c))
      (ck ⟨s.val / 384, hj⟩ (src m c ⟨s.val / 384, hj⟩)) (ix2 r ⟨s.val % 384, Nat.mod_lt _ (by decide)⟩) = _
  rw [second_apply, first_apply, src_eq m c _ h, dot_ck _ _ _ _ _ s hs, dot_ck _ _ _ _ _ s hs]
  rfl

end Cert.KernelIdeal.Ag

end
-- ==== Proof.Whole.lean ====
/-
What the reference computes: entry `(r, s)` of its result, over the extended reals, is the sum over all 3072 rows of
`B` of the products of the entries. The two casts change nothing there.
-/
module

public import proofs.«01_k».proof.Proof.Gen.ReferenceIdeal.Run
public import Idealize.ShloMosaic.Lib.StackMember

@[expose] public section

noncomputable section

namespace Cert.ReferenceIdeal.Whole

open Cert.ReferenceIdeal Cert.ReferenceIdeal.Gen
open Idealize.ShloMosaic Idealize.ShloMosaic.ValueIdx

/-- The product of the whole arrays. -/
def prod (A : Vec Ideal S6144x3072 .f32) (B : Vec Ideal S3072x3072 .bf16) : Vec Ideal S6144x3072 .bf16 :=
  truncf (F := Ideal) .bf16 (Host.dotGeneral (F := Ideal) (φ₁ := .bf16) (φ₂ := .bf16)
    dot_S6144x3072_S3072x3072_S6144x3072_1_0_0_1_n_n none
    (truncf (F := Ideal) .bf16 A bitsLt_bf16_f32) B) bitsLt_bf16_f32

theorem prod_apply (A : Vec Ideal S6144x3072 .f32) (B : Vec Ideal S3072x3072 .bf16) (r : Fin 6144) (s : Fin 3072) :
    prod A B (ix2 r s) = ∑ k : Fin 3072, (A (ix2 r k) * B (ix2 k s) : EReal) :=
  StackMember.dotGeneral_plain_apply (φ₁ := .bf16) (φ₂ := .bf16) none A B r s

end Cert.ReferenceIdeal.Whole

end
-- ==== Proof.Equation.lean ====
/-
The equation: if every device starts with its blocks of `A` and of `B`, the result of device `c` is its block of the
reference's product. The 3072 terms of an entry of the product are its own 1536 and its column neighbour's 1536; which
of the two comes first depends on the device's column, and addition of extended reals commutes.
-/
module

public import proofs.«01_k».proof.Proof.Held
public import proofs.«01_k».proof.Proof.Whole
public import Idealize.ShloMosaic.Lib.Layout

@[expose] public section

noncomputable section

namespace Cert.KernelIdeal.Ag

open Cert.KernelIdeal.Gen
open Idealize.ShloMosaic Idealize.ShloMosaic.ValueIdx
open Idealize.ShloMosaic.TcCoe
open Cert.ReferenceIdeal.Whole (prod prod_apply)

/-- A device's block of `A`. -/
abbrev blockA (c : Dev nD) (A : Vec Ideal Cert.ReferenceIdeal.S6144x3072 .f32) : Vec Ideal S3072x1536 .f32 :=
  Layout.blockN ⟨2, ![3072, 1536]⟩ ⟨2, ![6144, 3072]⟩ (Layout.meshBlock [2, 2] ![[0], [1]] c) A
/-- A device's block of `B`. -/
abbrev blockB (c : Dev nD) (B : Vec Ideal Cert.ReferenceIdeal.S3072x3072 .bf16) : Vec Ideal S1536x3072 .bf16 :=
  Layout.blockN ⟨2, ![1536, 3072]⟩ ⟨2, ![3072, 3072]⟩ (Layout.meshBlock [2, 2] ![[1], []] c) B
/-- A device's block of the result. -/
abbrev blockO (c : Dev nD) (X : Vec Ideal Cert.ReferenceIdeal.S6144x3072 .bf16) : Vec Ideal S3072x3072 .bf16 :=
  Layout.blockN ⟨2, ![3072, 3072]⟩ ⟨2, ![6144, 3072]⟩ (Layout.meshBlock [2, 2] ![[0], []] c) X

/-- Row `r` of device `c`'s rows, in the whole array. -/
def row (c : Dev nD) (r : Fin 3072) : Fin 6144 :=
  ⟨c.val / 2 * 3072 + r.val, by have h : c.val < 4 := c.isLt; have := r.isLt; omega⟩
/-- Place `k` of half `y` of the 3072 terms. -/
def place (y : Fin 2) (k : Fin 1536) : Fin 3072 := ⟨y.val * 1536 + k.val, by have := y.isLt; have := k.isLt; omega⟩
/-- The half that device `c` holds. -/
def half (c : Dev nD) : Fin 2 := ⟨c.val % 2, Nat.mod_lt _ (by decide)⟩

/-- A device's coordinates on the mesh, as the layout reads them. -/
theorem mesh_row (c : Dev nD) : Layout.meshLin [2, 2] c.val [0] = c.val / 2 := by revert c; decide
theorem mesh_col (c : Dev nD) : Layout.meshLin [2, 2] c.val [1] = c.val % 2 := by revert c; decide

theorem blockA_apply (c : Dev nD) (A : Vec Ideal Cert.ReferenceIdeal.S6144x3072 .f32) (r : Fin 3072) (k : Fin 1536) :
    blockA c A (ix2 r k) = A (ix2 (row c r) (place (half c) k)) := by
  refine congrArg A (funext fun x => ?_)
  refine Fin.cases ?_ (fun x => Fin.cases ?_ (fun x => x.elim0) x) x
  · exact Fin.ext (congrArg (· * 3072 + r.val) (mesh_row c))
  · exact Fin.ext (congrArg (· * 1536 + k.val) (mesh_col c))

theorem blockB_apply (c : Dev nD) (B : Vec Ideal Cert.ReferenceIdeal.S3072x3072 .bf16) (k : Fin 1536) (s : Fin 3072) :
    blockB c B (ix2 k s) = B (ix2 (place (half c) k) s) := by
  refine congrArg B (funext fun x => ?_)
  refine Fin.cases ?_ (fun x => Fin.cases ?_ (fun x => x.elim0) x) x
  · exact Fin.ext (congrArg (· * 1536 + k.val) (mesh_col c))
  · exact Fin.ext (show 0 * 3072 + s.val = s.val by omega)

theorem blockO_apply (c : Dev nD) (X : Vec Ideal Cert.ReferenceIdeal.S6144x3072 .bf16) (r s : Fin 3072) :
    blockO c X (ix2 r s) = X (ix2 (row c r) s) := by
  refine congrArg X (funext fun x => ?_)
  refine Fin.cases ?_ (fun x => Fin.cases ?_ (fun x => x.elim0) x) x
  · exact Fin.ext (congrArg (· * 3072 + r.val) (mesh_row c))
  · exact Fin.ext (show 0 * 3072 + s.val = s.val by omega)

theorem row_devY (c : Dev nD) (r : Fin 3072) : row (devY c) r = row c r :=
  Fin.ext (congrArg (· * 3072 + r.val) (devY_row c))
theorem half_devY (c : Dev nD) : half (devY c) = half c + 1 := by revert c; decide
theorem half_devX (c : Dev nD) : half (devY (devX c)) = half (devY c) := by revert c; decide

/-- The two halves of the terms, either one first. -/
theorem sum_halves (f : Fin 3072 → EReal) (y : Fin 2) :
    ∑ k, f k = ∑ k, f (place y k) + ∑ k, f (place (y + 1) k) := by
  have e : ∑ k, f k = ∑ k, f (place 0 k) + ∑ k, f (place 1 k) := by
    refine (Fin.sum_univ_add (a := 1536) (b := 1536) f).trans (congrArg₂ (· + ·) ?_ ?_)
    · exact Finset.sum_congr rfl fun k _ => congrArg f (Fin.ext (show k.val = 0 * 1536 + k.val by omega))
    · exact Finset.sum_congr rfl fun k _ => congrArg f (Fin.ext (show 1536 + k.val = 1 * 1536 + k.val by omega))
  match y with
  | 0 => exact e
  | 1 => exact e.trans (add_comm _ _)

/-- A device's own share of an entry of the product. -/
theorem dot_blocks (c : Dev nD) (A : Vec Ideal Cert.ReferenceIdeal.S6144x3072 .f32)
    (B : Vec Ideal Cert.ReferenceIdeal.S3072x3072 .bf16) (r s : Fin 3072) :
    dot (blockA c A) (blockB c B) r s
      = ∑ k, (A (ix2 (row c r) (place (half c) k)) * B (ix2 (place (half c) k) s) : EReal) :=
  Finset.sum_congr rfl fun k _ => congrArg₂ (· * ·) (blockA_apply c A r k) (blockB_apply c B k s)

variable (m : (ℓ : Loc nD τ sig) → Buf (Elt Ideal) ℓ)

/-- Devices of one column hold the same block of `B`. -/
theorem same_column (B : Vec Ideal Cert.ReferenceIdeal.S3072x3072 .bf16) (hB : ∀ c, cB m c = blockB c B) (c : Dev nD) :
    cB m (devY (devX c)) = cB m (devY c) := by
  rw [hB, hB]
  funext i
  obtain ⟨k, s, rfl⟩ : ∃ k s, i = ix2 k s := ⟨i 0, i 1, eq_ix2 i⟩
  rw [blockB_apply, blockB_apply, half_devX]

/-- What the kernel leaves on device `c` is its block of the reference's result. -/
theorem equation (A : Vec Ideal Cert.ReferenceIdeal.S6144x3072 .f32) (B : Vec Ideal Cert.ReferenceIdeal.S3072x3072 .bf16)
    (hA : ∀ c, cA m c = blockA c A) (hB : ∀ c, cB m c = blockB c B) (c : Dev nD) :
    res m c = blockO c (prod A B) := by
  funext i
  obtain ⟨r, s, rfl⟩ : ∃ r s, i = ix2 r s := ⟨i 0, i 1, eq_ix2 i⟩
  rw [res_apply m c (same_column m B hB c), hA c, hB c, hA (devY c), hB (devY c), dot_blocks, dot_blocks, row_devY,
    half_devY, blockO_apply, prod_apply]
  exact (sum_halves (fun k => (A (ix2 (row c r) k) * B (ix2 k s) : EReal)) (half c)).symm

end Cert.KernelIdeal.Ag

end
-- ==== Proof.lean ====
/-
The five claims, assembled. The run of the kernel on the mesh, proved once for any float values (`run_main`), gives
both frames of the kernel and, read over the extended reals, its side of the value claim; the reference's run gives
the other side; `equation` joins the two.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.LaunchK
public import proofs.«01_k».proof.Proof.Launch
public import proofs.«01_k».proof.Proof.Equation
public import Idealize.ShloMosaic.Lib.Quiescent

@[expose] public section

noncomputable section

namespace Cert.Proof

open Idealize.ShloMosaic Idealize.SL.Sem

/-- The kernel runs, keeps its arguments and leaves every semaphore at zero. -/
theorem kernel_frame : Cert.quiescent_Kernel (hKernel := Cert.Kernel.Gen.facts) := fun m g _ =>
  (θ_run _ _ _).mono (fun _ h => ⟨fun c => ⟨(h.1 c).1, (h.1 c).2.1⟩, h.2⟩) (Cert.Kernel.Ag.run_main (F := Bits) m g)

/-- The same over the extended reals. -/
theorem kernelIdeal_frame : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Ag.run_main (F := Ideal) m g)

/-- The reference runs and keeps its arguments; it has no semaphores. -/
theorem reference_frame : Cert.quiescent_ReferenceIdeal (hReferenceIdeal := Cert.ReferenceIdeal.Gen.facts) := fun m g _ =>
  (θ_run _ _ _).mono (fun _ h => ⟨fun c => (h c).2, sem_eq_zero_of_no_sems (by decide) _⟩)
    (Cert.ReferenceIdeal.Value.run (F := Ideal) m g)

/-- Each device ends with its block of the reference's result. -/
theorem value : Cert.algebraic_KernelIdeal_ReferenceIdeal (hKernelIdeal := Cert.KernelIdeal.Gen.facts)
    (hReferenceIdeal := Cert.ReferenceIdeal.Gen.facts) := fun m g m' g' _ hm =>
  ⟨Cert.ReferenceIdeal.Whole.prod _ _,
    (θ_run _ _ _).mono
      (fun _ h c => ⟨(h.1 c).2.2.trans (Cert.KernelIdeal.Ag.equation m _ _ (fun c => (hm c).1) (fun c => (hm c).2) c),
        (h.1 c).1, (h.1 c).2.1⟩)
      (Cert.KernelIdeal.Ag.run_main (F := Ideal) m g),
    (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, kernel_frame, kernelIdeal_frame,
    reference_frame, trivial, value⟩

end Cert.Proof

end
